-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SguKernel (m : (ℓ : Loc Cert.SguKernel.nD Cert.SguKernel.τ Cert.SguKernel.sig) → Buf (Elt Bits) ℓ) : Prop :=
  True

def Pre_SguKernelIdeal (m : (ℓ : Loc Cert.SguKernelIdeal.nD Cert.SguKernelIdeal.τ Cert.SguKernelIdeal.sig) → Buf (Elt Ideal) ℓ) : Prop :=
  True

def Pre_SguReferenceIdeal (m : (ℓ : Loc Cert.SguReferenceIdeal.nD Cert.SguReferenceIdeal.τ Cert.SguReferenceIdeal.sig) → Buf (Elt Ideal) ℓ) : Prop :=
  True

def Pre_OutAbKernel (m : (ℓ : Loc Cert.OutAbKernel.nD Cert.OutAbKernel.τ Cert.OutAbKernel.sig) → Buf (Elt Bits) ℓ) : Prop :=
  True

def Pre_OutAbKernelIdeal (m : (ℓ : Loc Cert.OutAbKernelIdeal.nD Cert.OutAbKernelIdeal.τ Cert.OutAbKernelIdeal.sig) → Buf (Elt Ideal) ℓ) : Prop :=
  True

def Pre_OutAbReferenceIdeal (m : (ℓ : Loc Cert.OutAbReferenceIdeal.nD Cert.OutAbReferenceIdeal.τ Cert.OutAbReferenceIdeal.sig) → Buf (Elt Ideal) ℓ) : Prop :=
  True

def Pre_OutCKernel (m : (ℓ : Loc Cert.OutCKernel.nD Cert.OutCKernel.τ Cert.OutCKernel.sig) → Buf (Elt Bits) ℓ) : Prop :=
  True

def Pre_OutCKernelIdeal (m : (ℓ : Loc Cert.OutCKernelIdeal.nD Cert.OutCKernelIdeal.τ Cert.OutCKernelIdeal.sig) → Buf (Elt Ideal) ℓ) : Prop :=
  True

def Pre_OutCReferenceIdeal (m : (ℓ : Loc Cert.OutCReferenceIdeal.nD Cert.OutCReferenceIdeal.τ Cert.OutCReferenceIdeal.sig) → Buf (Elt Ideal) ℓ) : Prop :=
  True

def Pre_ProjAbKernel (m : (ℓ : Loc Cert.ProjAbKernel.nD Cert.ProjAbKernel.τ Cert.ProjAbKernel.sig) → Buf (Elt Bits) ℓ) : Prop :=
  True

def Pre_ProjAbKernelIdeal (m : (ℓ : Loc Cert.ProjAbKernelIdeal.nD Cert.ProjAbKernelIdeal.τ Cert.ProjAbKernelIdeal.sig) → Buf (Elt Ideal) ℓ) : Prop :=
  True

def Pre_ProjAbReferenceIdeal (m : (ℓ : Loc Cert.ProjAbReferenceIdeal.nD Cert.ProjAbReferenceIdeal.τ Cert.ProjAbReferenceIdeal.sig) → Buf (Elt Ideal) ℓ) : Prop :=
  True

def Pre_ProjCKernel (m : (ℓ : Loc Cert.ProjCKernel.nD Cert.ProjCKernel.τ Cert.ProjCKernel.sig) → Buf (Elt Bits) ℓ) : Prop :=
  True

def Pre_ProjCKernelIdeal (m : (ℓ : Loc Cert.ProjCKernelIdeal.nD Cert.ProjCKernelIdeal.τ Cert.ProjCKernelIdeal.sig) → Buf (Elt Ideal) ℓ) : Prop :=
  True

def Pre_ProjCReferenceIdeal (m : (ℓ : Loc Cert.ProjCReferenceIdeal.nD Cert.ProjCReferenceIdeal.τ Cert.ProjCReferenceIdeal.sig) → Buf (Elt Ideal) ℓ) : Prop :=
  True

def Pre_MlstmKernel (m : (ℓ : Loc Cert.MlstmKernel.nD Cert.MlstmKernel.τ Cert.MlstmKernel.sig) → Buf (Elt Bits) ℓ) : Prop :=
  True

def Pre_MlstmKernelIdeal (m : (ℓ : Loc Cert.MlstmKernelIdeal.nD Cert.MlstmKernelIdeal.τ Cert.MlstmKernelIdeal.sig) → Buf (Elt Ideal) ℓ) : Prop :=
  True

def Pre_MlstmReferenceIdeal (m : (ℓ : Loc Cert.MlstmReferenceIdeal.nD Cert.MlstmReferenceIdeal.τ Cert.MlstmReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_SguKernel [hSguKernel : Cert.SguKernel.Facts] : Prop :=
  ∀ (m : (ℓ : Loc Cert.SguKernel.nD Cert.SguKernel.τ Cert.SguKernel.sig) → Buf (Elt Bits) ℓ) (g : Dev Cert.SguKernel.nD → PrngReg), Pre_SguKernel m →
    θ_run (Cert.SguKernel.defs (F := Bits)) (onTc (τ := Cert.SguKernel.τ) (Cert.SguKernel.main (F := Bits))) ⟨m, fun _ => 0, g⟩ (fun r => (∀ c : Dev Cert.SguKernel.nD,
      r.2.mem ((c.tc : Thread Cert.SguKernel.nD Cert.SguKernel.τ).loc Cert.SguKernel.main_arg0) = m ((c.tc : Thread Cert.SguKernel.nD Cert.SguKernel.τ).loc Cert.SguKernel.main_arg0)
      ∧ r.2.mem ((c.tc : Thread Cert.SguKernel.nD Cert.SguKernel.τ).loc Cert.SguKernel.main_arg1) = m ((c.tc : Thread Cert.SguKernel.nD Cert.SguKernel.τ).loc Cert.SguKernel.main_arg1)
      ∧ r.2.mem ((c.tc : Thread Cert.SguKernel.nD Cert.SguKernel.τ).loc Cert.SguKernel.main_arg2) = m ((c.tc : Thread Cert.SguKernel.nD Cert.SguKernel.τ).loc Cert.SguKernel.main_arg2)
      ∧ r.2.mem ((c.tc : Thread Cert.SguKernel.nD Cert.SguKernel.τ).loc Cert.SguKernel.main_arg3) = m ((c.tc : Thread Cert.SguKernel.nD Cert.SguKernel.τ).loc Cert.SguKernel.main_arg3))
      ∧ r.2.sem = fun _ => 0)

def quiescent_SguKernelIdeal [hSguKernelIdeal : Cert.SguKernelIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3))
      ∧ r.2.sem = fun _ => 0)

def quiescent_OutAbKernel [hOutAbKernel : Cert.OutAbKernel.Facts] : Prop :=
  ∀ (m : (ℓ : Loc Cert.OutAbKernel.nD Cert.OutAbKernel.τ Cert.OutAbKernel.sig) → Buf (Elt Bits) ℓ) (g : Dev Cert.OutAbKernel.nD → PrngReg), Pre_OutAbKernel m →
    θ_run (Cert.OutAbKernel.defs (F := Bits)) (onTc (τ := Cert.OutAbKernel.τ) (Cert.OutAbKernel.main (F := Bits))) ⟨m, fun _ => 0, g⟩ (fun r => (∀ c : Dev Cert.OutAbKernel.nD,
      r.2.mem ((c.tc : Thread Cert.OutAbKernel.nD Cert.OutAbKernel.τ).loc Cert.OutAbKernel.main_arg0) = m ((c.tc : Thread Cert.OutAbKernel.nD Cert.OutAbKernel.τ).loc Cert.OutAbKernel.main_arg0)
      ∧ r.2.mem ((c.tc : Thread Cert.OutAbKernel.nD Cert.OutAbKernel.τ).loc Cert.OutAbKernel.main_arg1) = m ((c.tc : Thread Cert.OutAbKernel.nD Cert.OutAbKernel.τ).loc Cert.OutAbKernel.main_arg1)
      ∧ r.2.mem ((c.tc : Thread Cert.OutAbKernel.nD Cert.OutAbKernel.τ).loc Cert.OutAbKernel.main_arg2) = m ((c.tc : Thread Cert.OutAbKernel.nD Cert.OutAbKernel.τ).loc Cert.OutAbKernel.main_arg2)
      ∧ r.2.mem ((c.tc : Thread Cert.OutAbKernel.nD Cert.OutAbKernel.τ).loc Cert.OutAbKernel.main_arg3) = m ((c.tc : Thread Cert.OutAbKernel.nD Cert.OutAbKernel.τ).loc Cert.OutAbKernel.main_arg3)
      ∧ r.2.mem ((c.tc : Thread Cert.OutAbKernel.nD Cert.OutAbKernel.τ).loc Cert.OutAbKernel.main_arg4) = m ((c.tc : Thread Cert.OutAbKernel.nD Cert.OutAbKernel.τ).loc Cert.OutAbKernel.main_arg4)
      ∧ r.2.mem ((c.tc : Thread Cert.OutAbKernel.nD Cert.OutAbKernel.τ).loc Cert.OutAbKernel.main_arg5) = m ((c.tc : Thread Cert.OutAbKernel.nD Cert.OutAbKernel.τ).loc Cert.OutAbKernel.main_arg5))
      ∧ r.2.sem = fun _ => 0)

def quiescent_OutAbKernelIdeal [hOutAbKernelIdeal : Cert.OutAbKernelIdeal.Facts] : Prop :=
  ∀ (m : (ℓ : Loc Cert.OutAbKernelIdeal.nD Cert.OutAbKernelIdeal.τ Cert.OutAbKernelIdeal.sig) → Buf (Elt Ideal) ℓ) (g : Dev Cert.OutAbKernelIdeal.nD → PrngReg), Pre_OutAbKernelIdeal m →
    θ_run (Cert.OutAbKernelIdeal.defs (F := Ideal)) (onTc (τ := Cert.OutAbKernelIdeal.τ) (Cert.OutAbKernelIdeal.main (F := Ideal))) ⟨m, fun _ => 0, g⟩ (fun r => (∀ c : Dev Cert.OutAbKernelIdeal.nD,
      r.2.mem ((c.tc : Thread Cert.OutAbKernelIdeal.nD Cert.OutAbKernelIdeal.τ).loc Cert.OutAbKernelIdeal.main_arg0) = m ((c.tc : Thread Cert.OutAbKernelIdeal.nD Cert.OutAbKernelIdeal.τ).loc Cert.OutAbKernelIdeal.main_arg0)
      ∧ r.2.mem ((c.tc : Thread Cert.OutAbKernelIdeal.nD Cert.OutAbKernelIdeal.τ).loc Cert.OutAbKernelIdeal.main_arg1) = m ((c.tc : Thread Cert.OutAbKernelIdeal.nD Cert.OutAbKernelIdeal.τ).loc Cert.OutAbKernelIdeal.main_arg1)
      ∧ r.2.mem ((c.tc : Thread Cert.OutAbKernelIdeal.nD Cert.OutAbKernelIdeal.τ).loc Cert.OutAbKernelIdeal.main_arg2) = m ((c.tc : Thread Cert.OutAbKernelIdeal.nD Cert.OutAbKernelIdeal.τ).loc Cert.OutAbKernelIdeal.main_arg2)
      ∧ r.2.mem ((c.tc : Thread Cert.OutAbKernelIdeal.nD Cert.OutAbKernelIdeal.τ).loc Cert.OutAbKernelIdeal.main_arg3) = m ((c.tc : Thread Cert.OutAbKernelIdeal.nD Cert.OutAbKernelIdeal.τ).loc Cert.OutAbKernelIdeal.main_arg3)
      ∧ r.2.mem ((c.tc : Thread Cert.OutAbKernelIdeal.nD Cert.OutAbKernelIdeal.τ).loc Cert.OutAbKernelIdeal.main_arg4) = m ((c.tc : Thread Cert.OutAbKernelIdeal.nD Cert.OutAbKernelIdeal.τ).loc Cert.OutAbKernelIdeal.main_arg4)
      ∧ r.2.mem ((c.tc : Thread Cert.OutAbKernelIdeal.nD Cert.OutAbKernelIdeal.τ).loc Cert.OutAbKernelIdeal.main_arg5) = m ((c.tc : Thread Cert.OutAbKernelIdeal.nD Cert.OutAbKernelIdeal.τ).loc Cert.OutAbKernelIdeal.main_arg5))
      ∧ r.2.sem = fun _ => 0)

def quiescent_OutAbReferenceIdeal [hOutAbReferenceIdeal : Cert.OutAbReferenceIdeal.Facts] : Prop :=
  ∀ (m : (ℓ : Loc Cert.OutAbReferenceIdeal.nD Cert.OutAbReferenceIdeal.τ Cert.OutAbReferenceIdeal.sig) → Buf (Elt Ideal) ℓ) (g : Dev Cert.OutAbReferenceIdeal.nD → PrngReg), Pre_OutAbReferenceIdeal m →
    θ_run (Cert.OutAbReferenceIdeal.defs (F := Ideal)) (onTc (τ := Cert.OutAbReferenceIdeal.τ) (Cert.OutAbReferenceIdeal.main (F := Ideal))) ⟨m, fun _ => 0, g⟩ (fun r => (∀ c : Dev Cert.OutAbReferenceIdeal.nD,
      r.2.mem ((c.tc : Thread Cert.OutAbReferenceIdeal.nD Cert.OutAbReferenceIdeal.τ).loc Cert.OutAbReferenceIdeal.main_arg0) = m ((c.tc : Thread Cert.OutAbReferenceIdeal.nD Cert.OutAbReferenceIdeal.τ).loc Cert.OutAbReferenceIdeal.main_arg0)
      ∧ r.2.mem ((c.tc : Thread Cert.OutAbReferenceIdeal.nD Cert.OutAbReferenceIdeal.τ).loc Cert.OutAbReferenceIdeal.main_arg1) = m ((c.tc : Thread Cert.OutAbReferenceIdeal.nD Cert.OutAbReferenceIdeal.τ).loc Cert.OutAbReferenceIdeal.main_arg1)
      ∧ r.2.mem ((c.tc : Thread Cert.OutAbReferenceIdeal.nD Cert.OutAbReferenceIdeal.τ).loc Cert.OutAbReferenceIdeal.main_arg2) = m ((c.tc : Thread Cert.OutAbReferenceIdeal.nD Cert.OutAbReferenceIdeal.τ).loc Cert.OutAbReferenceIdeal.main_arg2)
      ∧ r.2.mem ((c.tc : Thread Cert.OutAbReferenceIdeal.nD Cert.OutAbReferenceIdeal.τ).loc Cert.OutAbReferenceIdeal.main_arg3) = m ((c.tc : Thread Cert.OutAbReferenceIdeal.nD Cert.OutAbReferenceIdeal.τ).loc Cert.OutAbReferenceIdeal.main_arg3)
      ∧ r.2.mem ((c.tc : Thread Cert.OutAbReferenceIdeal.nD Cert.OutAbReferenceIdeal.τ).loc Cert.OutAbReferenceIdeal.main_arg4) = m ((c.tc : Thread Cert.OutAbReferenceIdeal.nD Cert.OutAbReferenceIdeal.τ).loc Cert.OutAbReferenceIdeal.main_arg4)
      ∧ r.2.mem ((c.tc : Thread Cert.OutAbReferenceIdeal.nD Cert.OutAbReferenceIdeal.τ).loc Cert.OutAbReferenceIdeal.main_arg5) = m ((c.tc : Thread Cert.OutAbReferenceIdeal.nD Cert.OutAbReferenceIdeal.τ).loc Cert.OutAbReferenceIdeal.main_arg5))
      ∧ r.2.sem = fun _ => 0)

def quiescent_OutCKernel [hOutCKernel : Cert.OutCKernel.Facts] : Prop :=
  ∀ (m : (ℓ : Loc Cert.OutCKernel.nD Cert.OutCKernel.τ Cert.OutCKernel.sig) → Buf (Elt Bits) ℓ) (g : Dev Cert.OutCKernel.nD → PrngReg), Pre_OutCKernel m →
    θ_run (Cert.OutCKernel.defs (F := Bits)) (onTc (τ := Cert.OutCKernel.τ) (Cert.OutCKernel.main (F := Bits))) ⟨m, fun _ => 0, g⟩ (fun r => (∀ c : Dev Cert.OutCKernel.nD,
      r.2.mem ((c.tc : Thread Cert.OutCKernel.nD Cert.OutCKernel.τ).loc Cert.OutCKernel.main_arg0) = m ((c.tc : Thread Cert.OutCKernel.nD Cert.OutCKernel.τ).loc Cert.OutCKernel.main_arg0)
      ∧ r.2.mem ((c.tc : Thread Cert.OutCKernel.nD Cert.OutCKernel.τ).loc Cert.OutCKernel.main_arg1) = m ((c.tc : Thread Cert.OutCKernel.nD Cert.OutCKernel.τ).loc Cert.OutCKernel.main_arg1)
      ∧ r.2.mem ((c.tc : Thread Cert.OutCKernel.nD Cert.OutCKernel.τ).loc Cert.OutCKernel.main_arg2) = m ((c.tc : Thread Cert.OutCKernel.nD Cert.OutCKernel.τ).loc Cert.OutCKernel.main_arg2)
      ∧ r.2.mem ((c.tc : Thread Cert.OutCKernel.nD Cert.OutCKernel.τ).loc Cert.OutCKernel.main_arg3) = m ((c.tc : Thread Cert.OutCKernel.nD Cert.OutCKernel.τ).loc Cert.OutCKernel.main_arg3)
      ∧ r.2.mem ((c.tc : Thread Cert.OutCKernel.nD Cert.OutCKernel.τ).loc Cert.OutCKernel.main_arg4) = m ((c.tc : Thread Cert.OutCKernel.nD Cert.OutCKernel.τ).loc Cert.OutCKernel.main_arg4))
      ∧ r.2.sem = fun _ => 0)

def quiescent_OutCKernelIdeal [hOutCKernelIdeal : Cert.OutCKernelIdeal.Facts] : Prop :=
  ∀ (m : (ℓ : Loc Cert.OutCKernelIdeal.nD Cert.OutCKernelIdeal.τ Cert.OutCKernelIdeal.sig) → Buf (Elt Ideal) ℓ) (g : Dev Cert.OutCKernelIdeal.nD → PrngReg), Pre_OutCKernelIdeal m →
    θ_run (Cert.OutCKernelIdeal.defs (F := Ideal)) (onTc (τ := Cert.OutCKernelIdeal.τ) (Cert.OutCKernelIdeal.main (F := Ideal))) ⟨m, fun _ => 0, g⟩ (fun r => (∀ c : Dev Cert.OutCKernelIdeal.nD,
      r.2.mem ((c.tc : Thread Cert.OutCKernelIdeal.nD Cert.OutCKernelIdeal.τ).loc Cert.OutCKernelIdeal.main_arg0) = m ((c.tc : Thread Cert.OutCKernelIdeal.nD Cert.OutCKernelIdeal.τ).loc Cert.OutCKernelIdeal.main_arg0)
      ∧ r.2.mem ((c.tc : Thread Cert.OutCKernelIdeal.nD Cert.OutCKernelIdeal.τ).loc Cert.OutCKernelIdeal.main_arg1) = m ((c.tc : Thread Cert.OutCKernelIdeal.nD Cert.OutCKernelIdeal.τ).loc Cert.OutCKernelIdeal.main_arg1)
      ∧ r.2.mem ((c.tc : Thread Cert.OutCKernelIdeal.nD Cert.OutCKernelIdeal.τ).loc Cert.OutCKernelIdeal.main_arg2) = m ((c.tc : Thread Cert.OutCKernelIdeal.nD Cert.OutCKernelIdeal.τ).loc Cert.OutCKernelIdeal.main_arg2)
      ∧ r.2.mem ((c.tc : Thread Cert.OutCKernelIdeal.nD Cert.OutCKernelIdeal.τ).loc Cert.OutCKernelIdeal.main_arg3) = m ((c.tc : Thread Cert.OutCKernelIdeal.nD Cert.OutCKernelIdeal.τ).loc Cert.OutCKernelIdeal.main_arg3)
      ∧ r.2.mem ((c.tc : Thread Cert.OutCKernelIdeal.nD Cert.OutCKernelIdeal.τ).loc Cert.OutCKernelIdeal.main_arg4) = m ((c.tc : Thread Cert.OutCKernelIdeal.nD Cert.OutCKernelIdeal.τ).loc Cert.OutCKernelIdeal.main_arg4))
      ∧ r.2.sem = fun _ => 0)

def quiescent_OutCReferenceIdeal [hOutCReferenceIdeal : Cert.OutCReferenceIdeal.Facts] : Prop :=
  ∀ (m : (ℓ : Loc Cert.OutCReferenceIdeal.nD Cert.OutCReferenceIdeal.τ Cert.OutCReferenceIdeal.sig) → Buf (Elt Ideal) ℓ) (g : Dev Cert.OutCReferenceIdeal.nD → PrngReg), Pre_OutCReferenceIdeal m →
    θ_run (Cert.OutCReferenceIdeal.defs (F := Ideal)) (onTc (τ := Cert.OutCReferenceIdeal.τ) (Cert.OutCReferenceIdeal.main (F := Ideal))) ⟨m, fun _ => 0, g⟩ (fun r => (∀ c : Dev Cert.OutCReferenceIdeal.nD,
      r.2.mem ((c.tc : Thread Cert.OutCReferenceIdeal.nD Cert.OutCReferenceIdeal.τ).loc Cert.OutCReferenceIdeal.main_arg0) = m ((c.tc : Thread Cert.OutCReferenceIdeal.nD Cert.OutCReferenceIdeal.τ).loc Cert.OutCReferenceIdeal.main_arg0)
      ∧ r.2.mem ((c.tc : Thread Cert.OutCReferenceIdeal.nD Cert.OutCReferenceIdeal.τ).loc Cert.OutCReferenceIdeal.main_arg1) = m ((c.tc : Thread Cert.OutCReferenceIdeal.nD Cert.OutCReferenceIdeal.τ).loc Cert.OutCReferenceIdeal.main_arg1)
      ∧ r.2.mem ((c.tc : Thread Cert.OutCReferenceIdeal.nD Cert.OutCReferenceIdeal.τ).loc Cert.OutCReferenceIdeal.main_arg2) = m ((c.tc : Thread Cert.OutCReferenceIdeal.nD Cert.OutCReferenceIdeal.τ).loc Cert.OutCReferenceIdeal.main_arg2)
      ∧ r.2.mem ((c.tc : Thread Cert.OutCReferenceIdeal.nD Cert.OutCReferenceIdeal.τ).loc Cert.OutCReferenceIdeal.main_arg3) = m ((c.tc : Thread Cert.OutCReferenceIdeal.nD Cert.OutCReferenceIdeal.τ).loc Cert.OutCReferenceIdeal.main_arg3)
      ∧ r.2.mem ((c.tc : Thread Cert.OutCReferenceIdeal.nD Cert.OutCReferenceIdeal.τ).loc Cert.OutCReferenceIdeal.main_arg4) = m ((c.tc : Thread Cert.OutCReferenceIdeal.nD Cert.OutCReferenceIdeal.τ).loc Cert.OutCReferenceIdeal.main_arg4))
      ∧ r.2.sem = fun _ => 0)

def quiescent_ProjAbKernel [hProjAbKernel : Cert.ProjAbKernel.Facts] : Prop :=
  ∀ (m : (ℓ : Loc Cert.ProjAbKernel.nD Cert.ProjAbKernel.τ Cert.ProjAbKernel.sig) → Buf (Elt Bits) ℓ) (g : Dev Cert.ProjAbKernel.nD → PrngReg), Pre_ProjAbKernel m →
    θ_run (Cert.ProjAbKernel.defs (F := Bits)) (onTc (τ := Cert.ProjAbKernel.τ) (Cert.ProjAbKernel.main (F := Bits))) ⟨m, fun _ => 0, g⟩ (fun r => (∀ c : Dev Cert.ProjAbKernel.nD,
      r.2.mem ((c.tc : Thread Cert.ProjAbKernel.nD Cert.ProjAbKernel.τ).loc Cert.ProjAbKernel.main_arg0) = m ((c.tc : Thread Cert.ProjAbKernel.nD Cert.ProjAbKernel.τ).loc Cert.ProjAbKernel.main_arg0)
      ∧ r.2.mem ((c.tc : Thread Cert.ProjAbKernel.nD Cert.ProjAbKernel.τ).loc Cert.ProjAbKernel.main_arg1) = m ((c.tc : Thread Cert.ProjAbKernel.nD Cert.ProjAbKernel.τ).loc Cert.ProjAbKernel.main_arg1)
      ∧ r.2.mem ((c.tc : Thread Cert.ProjAbKernel.nD Cert.ProjAbKernel.τ).loc Cert.ProjAbKernel.main_arg2) = m ((c.tc : Thread Cert.ProjAbKernel.nD Cert.ProjAbKernel.τ).loc Cert.ProjAbKernel.main_arg2)
      ∧ r.2.mem ((c.tc : Thread Cert.ProjAbKernel.nD Cert.ProjAbKernel.τ).loc Cert.ProjAbKernel.main_arg3) = m ((c.tc : Thread Cert.ProjAbKernel.nD Cert.ProjAbKernel.τ).loc Cert.ProjAbKernel.main_arg3))
      ∧ r.2.sem = fun _ => 0)

def quiescent_ProjAbKernelIdeal [hProjAbKernelIdeal : Cert.ProjAbKernelIdeal.Facts] : Prop :=
  ∀ (m : (ℓ : Loc Cert.ProjAbKernelIdeal.nD Cert.ProjAbKernelIdeal.τ Cert.ProjAbKernelIdeal.sig) → Buf (Elt Ideal) ℓ) (g : Dev Cert.ProjAbKernelIdeal.nD → PrngReg), Pre_ProjAbKernelIdeal m →
    θ_run (Cert.ProjAbKernelIdeal.defs (F := Ideal)) (onTc (τ := Cert.ProjAbKernelIdeal.τ) (Cert.ProjAbKernelIdeal.main (F := Ideal))) ⟨m, fun _ => 0, g⟩ (fun r => (∀ c : Dev Cert.ProjAbKernelIdeal.nD,
      r.2.mem ((c.tc : Thread Cert.ProjAbKernelIdeal.nD Cert.ProjAbKernelIdeal.τ).loc Cert.ProjAbKernelIdeal.main_arg0) = m ((c.tc : Thread Cert.ProjAbKernelIdeal.nD Cert.ProjAbKernelIdeal.τ).loc Cert.ProjAbKernelIdeal.main_arg0)
      ∧ r.2.mem ((c.tc : Thread Cert.ProjAbKernelIdeal.nD Cert.ProjAbKernelIdeal.τ).loc Cert.ProjAbKernelIdeal.main_arg1) = m ((c.tc : Thread Cert.ProjAbKernelIdeal.nD Cert.ProjAbKernelIdeal.τ).loc Cert.ProjAbKernelIdeal.main_arg1)
      ∧ r.2.mem ((c.tc : Thread Cert.ProjAbKernelIdeal.nD Cert.ProjAbKernelIdeal.τ).loc Cert.ProjAbKernelIdeal.main_arg2) = m ((c.tc : Thread Cert.ProjAbKernelIdeal.nD Cert.ProjAbKernelIdeal.τ).loc Cert.ProjAbKernelIdeal.main_arg2)
      ∧ r.2.mem ((c.tc : Thread Cert.ProjAbKernelIdeal.nD Cert.ProjAbKernelIdeal.τ).loc Cert.ProjAbKernelIdeal.main_arg3) = m ((c.tc : Thread Cert.ProjAbKernelIdeal.nD Cert.ProjAbKernelIdeal.τ).loc Cert.ProjAbKernelIdeal.main_arg3))
      ∧ r.2.sem = fun _ => 0)

def quiescent_ProjAbReferenceIdeal [hProjAbReferenceIdeal : Cert.ProjAbReferenceIdeal.Facts] : Prop :=
  ∀ (m : (ℓ : Loc Cert.ProjAbReferenceIdeal.nD Cert.ProjAbReferenceIdeal.τ Cert.ProjAbReferenceIdeal.sig) → Buf (Elt Ideal) ℓ) (g : Dev Cert.ProjAbReferenceIdeal.nD → PrngReg), Pre_ProjAbReferenceIdeal m →
    θ_run (Cert.ProjAbReferenceIdeal.defs (F := Ideal)) (onTc (τ := Cert.ProjAbReferenceIdeal.τ) (Cert.ProjAbReferenceIdeal.main (F := Ideal))) ⟨m, fun _ => 0, g⟩ (fun r => (∀ c : Dev Cert.ProjAbReferenceIdeal.nD,
      r.2.mem ((c.tc : Thread Cert.ProjAbReferenceIdeal.nD Cert.ProjAbReferenceIdeal.τ).loc Cert.ProjAbReferenceIdeal.main_arg0) = m ((c.tc : Thread Cert.ProjAbReferenceIdeal.nD Cert.ProjAbReferenceIdeal.τ).loc Cert.ProjAbReferenceIdeal.main_arg0)
      ∧ r.2.mem ((c.tc : Thread Cert.ProjAbReferenceIdeal.nD Cert.ProjAbReferenceIdeal.τ).loc Cert.ProjAbReferenceIdeal.main_arg1) = m ((c.tc : Thread Cert.ProjAbReferenceIdeal.nD Cert.ProjAbReferenceIdeal.τ).loc Cert.ProjAbReferenceIdeal.main_arg1)
      ∧ r.2.mem ((c.tc : Thread Cert.ProjAbReferenceIdeal.nD Cert.ProjAbReferenceIdeal.τ).loc Cert.ProjAbReferenceIdeal.main_arg2) = m ((c.tc : Thread Cert.ProjAbReferenceIdeal.nD Cert.ProjAbReferenceIdeal.τ).loc Cert.ProjAbReferenceIdeal.main_arg2)
      ∧ r.2.mem ((c.tc : Thread Cert.ProjAbReferenceIdeal.nD Cert.ProjAbReferenceIdeal.τ).loc Cert.ProjAbReferenceIdeal.main_arg3) = m ((c.tc : Thread Cert.ProjAbReferenceIdeal.nD Cert.ProjAbReferenceIdeal.τ).loc Cert.ProjAbReferenceIdeal.main_arg3))
      ∧ r.2.sem = fun _ => 0)

def quiescent_ProjCKernel [hProjCKernel : Cert.ProjCKernel.Facts] : Prop :=
  ∀ (m : (ℓ : Loc Cert.ProjCKernel.nD Cert.ProjCKernel.τ Cert.ProjCKernel.sig) → Buf (Elt Bits) ℓ) (g : Dev Cert.ProjCKernel.nD → PrngReg), Pre_ProjCKernel m →
    θ_run (Cert.ProjCKernel.defs (F := Bits)) (onTc (τ := Cert.ProjCKernel.τ) (Cert.ProjCKernel.main (F := Bits))) ⟨m, fun _ => 0, g⟩ (fun r => (∀ c : Dev Cert.ProjCKernel.nD,
      r.2.mem ((c.tc : Thread Cert.ProjCKernel.nD Cert.ProjCKernel.τ).loc Cert.ProjCKernel.main_arg0) = m ((c.tc : Thread Cert.ProjCKernel.nD Cert.ProjCKernel.τ).loc Cert.ProjCKernel.main_arg0)
      ∧ r.2.mem ((c.tc : Thread Cert.ProjCKernel.nD Cert.ProjCKernel.τ).loc Cert.ProjCKernel.main_arg1) = m ((c.tc : Thread Cert.ProjCKernel.nD Cert.ProjCKernel.τ).loc Cert.ProjCKernel.main_arg1)
      ∧ r.2.mem ((c.tc : Thread Cert.ProjCKernel.nD Cert.ProjCKernel.τ).loc Cert.ProjCKernel.main_arg2) = m ((c.tc : Thread Cert.ProjCKernel.nD Cert.ProjCKernel.τ).loc Cert.ProjCKernel.main_arg2)
      ∧ r.2.mem ((c.tc : Thread Cert.ProjCKernel.nD Cert.ProjCKernel.τ).loc Cert.ProjCKernel.main_arg3) = m ((c.tc : Thread Cert.ProjCKernel.nD Cert.ProjCKernel.τ).loc Cert.ProjCKernel.main_arg3)
      ∧ r.2.mem ((c.tc : Thread Cert.ProjCKernel.nD Cert.ProjCKernel.τ).loc Cert.ProjCKernel.main_arg4) = m ((c.tc : Thread Cert.ProjCKernel.nD Cert.ProjCKernel.τ).loc Cert.ProjCKernel.main_arg4)
      ∧ r.2.mem ((c.tc : Thread Cert.ProjCKernel.nD Cert.ProjCKernel.τ).loc Cert.ProjCKernel.main_arg5) = m ((c.tc : Thread Cert.ProjCKernel.nD Cert.ProjCKernel.τ).loc Cert.ProjCKernel.main_arg5))
      ∧ r.2.sem = fun _ => 0)

def quiescent_ProjCKernelIdeal [hProjCKernelIdeal : Cert.ProjCKernelIdeal.Facts] : Prop :=
  ∀ (m : (ℓ : Loc Cert.ProjCKernelIdeal.nD Cert.ProjCKernelIdeal.τ Cert.ProjCKernelIdeal.sig) → Buf (Elt Ideal) ℓ) (g : Dev Cert.ProjCKernelIdeal.nD → PrngReg), Pre_ProjCKernelIdeal m →
    θ_run (Cert.ProjCKernelIdeal.defs (F := Ideal)) (onTc (τ := Cert.ProjCKernelIdeal.τ) (Cert.ProjCKernelIdeal.main (F := Ideal))) ⟨m, fun _ => 0, g⟩ (fun r => (∀ c : Dev Cert.ProjCKernelIdeal.nD,
      r.2.mem ((c.tc : Thread Cert.ProjCKernelIdeal.nD Cert.ProjCKernelIdeal.τ).loc Cert.ProjCKernelIdeal.main_arg0) = m ((c.tc : Thread Cert.ProjCKernelIdeal.nD Cert.ProjCKernelIdeal.τ).loc Cert.ProjCKernelIdeal.main_arg0)
      ∧ r.2.mem ((c.tc : Thread Cert.ProjCKernelIdeal.nD Cert.ProjCKernelIdeal.τ).loc Cert.ProjCKernelIdeal.main_arg1) = m ((c.tc : Thread Cert.ProjCKernelIdeal.nD Cert.ProjCKernelIdeal.τ).loc Cert.ProjCKernelIdeal.main_arg1)
      ∧ r.2.mem ((c.tc : Thread Cert.ProjCKernelIdeal.nD Cert.ProjCKernelIdeal.τ).loc Cert.ProjCKernelIdeal.main_arg2) = m ((c.tc : Thread Cert.ProjCKernelIdeal.nD Cert.ProjCKernelIdeal.τ).loc Cert.ProjCKernelIdeal.main_arg2)
      ∧ r.2.mem ((c.tc : Thread Cert.ProjCKernelIdeal.nD Cert.ProjCKernelIdeal.τ).loc Cert.ProjCKernelIdeal.main_arg3) = m ((c.tc : Thread Cert.ProjCKernelIdeal.nD Cert.ProjCKernelIdeal.τ).loc Cert.ProjCKernelIdeal.main_arg3)
      ∧ r.2.mem ((c.tc : Thread Cert.ProjCKernelIdeal.nD Cert.ProjCKernelIdeal.τ).loc Cert.ProjCKernelIdeal.main_arg4) = m ((c.tc : Thread Cert.ProjCKernelIdeal.nD Cert.ProjCKernelIdeal.τ).loc Cert.ProjCKernelIdeal.main_arg4)
      ∧ r.2.mem ((c.tc : Thread Cert.ProjCKernelIdeal.nD Cert.ProjCKernelIdeal.τ).loc Cert.ProjCKernelIdeal.main_arg5) = m ((c.tc : Thread Cert.ProjCKernelIdeal.nD Cert.ProjCKernelIdeal.τ).loc Cert.ProjCKernelIdeal.main_arg5))
      ∧ r.2.sem = fun _ => 0)

def quiescent_ProjCReferenceIdeal [hProjCReferenceIdeal : Cert.ProjCReferenceIdeal.Facts] : Prop :=
  ∀ (m : (ℓ : Loc Cert.ProjCReferenceIdeal.nD Cert.ProjCReferenceIdeal.τ Cert.ProjCReferenceIdeal.sig) → Buf (Elt Ideal) ℓ) (g : Dev Cert.ProjCReferenceIdeal.nD → PrngReg), Pre_ProjCReferenceIdeal m →
    θ_run (Cert.ProjCReferenceIdeal.defs (F := Ideal)) (onTc (τ := Cert.ProjCReferenceIdeal.τ) (Cert.ProjCReferenceIdeal.main (F := Ideal))) ⟨m, fun _ => 0, g⟩ (fun r => (∀ c : Dev Cert.ProjCReferenceIdeal.nD,
      r.2.mem ((c.tc : Thread Cert.ProjCReferenceIdeal.nD Cert.ProjCReferenceIdeal.τ).loc Cert.ProjCReferenceIdeal.main_arg0) = m ((c.tc : Thread Cert.ProjCReferenceIdeal.nD Cert.ProjCReferenceIdeal.τ).loc Cert.ProjCReferenceIdeal.main_arg0)
      ∧ r.2.mem ((c.tc : Thread Cert.ProjCReferenceIdeal.nD Cert.ProjCReferenceIdeal.τ).loc Cert.ProjCReferenceIdeal.main_arg1) = m ((c.tc : Thread Cert.ProjCReferenceIdeal.nD Cert.ProjCReferenceIdeal.τ).loc Cert.ProjCReferenceIdeal.main_arg1)
      ∧ r.2.mem ((c.tc : Thread Cert.ProjCReferenceIdeal.nD Cert.ProjCReferenceIdeal.τ).loc Cert.ProjCReferenceIdeal.main_arg2) = m ((c.tc : Thread Cert.ProjCReferenceIdeal.nD Cert.ProjCReferenceIdeal.τ).loc Cert.ProjCReferenceIdeal.main_arg2)
      ∧ r.2.mem ((c.tc : Thread Cert.ProjCReferenceIdeal.nD Cert.ProjCReferenceIdeal.τ).loc Cert.ProjCReferenceIdeal.main_arg3) = m ((c.tc : Thread Cert.ProjCReferenceIdeal.nD Cert.ProjCReferenceIdeal.τ).loc Cert.ProjCReferenceIdeal.main_arg3)
      ∧ r.2.mem ((c.tc : Thread Cert.ProjCReferenceIdeal.nD Cert.ProjCReferenceIdeal.τ).loc Cert.ProjCReferenceIdeal.main_arg4) = m ((c.tc : Thread Cert.ProjCReferenceIdeal.nD Cert.ProjCReferenceIdeal.τ).loc Cert.ProjCReferenceIdeal.main_arg4)
      ∧ r.2.mem ((c.tc : Thread Cert.ProjCReferenceIdeal.nD Cert.ProjCReferenceIdeal.τ).loc Cert.ProjCReferenceIdeal.main_arg5) = m ((c.tc : Thread Cert.ProjCReferenceIdeal.nD Cert.ProjCReferenceIdeal.τ).loc Cert.ProjCReferenceIdeal.main_arg5))
      ∧ r.2.sem = fun _ => 0)

def quiescent_MlstmKernel [hMlstmKernel : Cert.MlstmKernel.Facts] : Prop :=
  ∀ (m : (ℓ : Loc Cert.MlstmKernel.nD Cert.MlstmKernel.τ Cert.MlstmKernel.sig) → Buf (Elt Bits) ℓ) (g : Dev Cert.MlstmKernel.nD → PrngReg), Pre_MlstmKernel m →
    θ_run (Cert.MlstmKernel.defs (F := Bits)) (onTc (τ := Cert.MlstmKernel.τ) (Cert.MlstmKernel.main (F := Bits))) ⟨m, fun _ => 0, g⟩ (fun r => (∀ c : Dev Cert.MlstmKernel.nD,
      r.2.mem ((c.tc : Thread Cert.MlstmKernel.nD Cert.MlstmKernel.τ).loc Cert.MlstmKernel.main_arg0) = m ((c.tc : Thread Cert.MlstmKernel.nD Cert.MlstmKernel.τ).loc Cert.MlstmKernel.main_arg0)
      ∧ r.2.mem ((c.tc : Thread Cert.MlstmKernel.nD Cert.MlstmKernel.τ).loc Cert.MlstmKernel.main_arg1) = m ((c.tc : Thread Cert.MlstmKernel.nD Cert.MlstmKernel.τ).loc Cert.MlstmKernel.main_arg1)
      ∧ r.2.mem ((c.tc : Thread Cert.MlstmKernel.nD Cert.MlstmKernel.τ).loc Cert.MlstmKernel.main_arg2) = m ((c.tc : Thread Cert.MlstmKernel.nD Cert.MlstmKernel.τ).loc Cert.MlstmKernel.main_arg2)
      ∧ r.2.mem ((c.tc : Thread Cert.MlstmKernel.nD Cert.MlstmKernel.τ).loc Cert.MlstmKernel.main_arg3) = m ((c.tc : Thread Cert.MlstmKernel.nD Cert.MlstmKernel.τ).loc Cert.MlstmKernel.main_arg3)
      ∧ r.2.mem ((c.tc : Thread Cert.MlstmKernel.nD Cert.MlstmKernel.τ).loc Cert.MlstmKernel.main_arg4) = m ((c.tc : Thread Cert.MlstmKernel.nD Cert.MlstmKernel.τ).loc Cert.MlstmKernel.main_arg4)
      ∧ r.2.mem ((c.tc : Thread Cert.MlstmKernel.nD Cert.MlstmKernel.τ).loc Cert.MlstmKernel.main_arg5) = m ((c.tc : Thread Cert.MlstmKernel.nD Cert.MlstmKernel.τ).loc Cert.MlstmKernel.main_arg5))
      ∧ r.2.sem = fun _ => 0)

def quiescent_MlstmKernelIdeal [hMlstmKernelIdeal : Cert.MlstmKernelIdeal.Facts] : Prop :=
  ∀ (m : (ℓ : Loc Cert.MlstmKernelIdeal.nD Cert.MlstmKernelIdeal.τ Cert.MlstmKernelIdeal.sig) → Buf (Elt Ideal) ℓ) (g : Dev Cert.MlstmKernelIdeal.nD → PrngReg), Pre_MlstmKernelIdeal m →
    θ_run (Cert.MlstmKernelIdeal.defs (F := Ideal)) (onTc (τ := Cert.MlstmKernelIdeal.τ) (Cert.MlstmKernelIdeal.main (F := Ideal))) ⟨m, fun _ => 0, g⟩ (fun r => (∀ c : Dev Cert.MlstmKernelIdeal.nD,
      r.2.mem ((c.tc : Thread Cert.MlstmKernelIdeal.nD Cert.MlstmKernelIdeal.τ).loc Cert.MlstmKernelIdeal.main_arg0) = m ((c.tc : Thread Cert.MlstmKernelIdeal.nD Cert.MlstmKernelIdeal.τ).loc Cert.MlstmKernelIdeal.main_arg0)
      ∧ r.2.mem ((c.tc : Thread Cert.MlstmKernelIdeal.nD Cert.MlstmKernelIdeal.τ).loc Cert.MlstmKernelIdeal.main_arg1) = m ((c.tc : Thread Cert.MlstmKernelIdeal.nD Cert.MlstmKernelIdeal.τ).loc Cert.MlstmKernelIdeal.main_arg1)
      ∧ r.2.mem ((c.tc : Thread Cert.MlstmKernelIdeal.nD Cert.MlstmKernelIdeal.τ).loc Cert.MlstmKernelIdeal.main_arg2) = m ((c.tc : Thread Cert.MlstmKernelIdeal.nD Cert.MlstmKernelIdeal.τ).loc Cert.MlstmKernelIdeal.main_arg2)
      ∧ r.2.mem ((c.tc : Thread Cert.MlstmKernelIdeal.nD Cert.MlstmKernelIdeal.τ).loc Cert.MlstmKernelIdeal.main_arg3) = m ((c.tc : Thread Cert.MlstmKernelIdeal.nD Cert.MlstmKernelIdeal.τ).loc Cert.MlstmKernelIdeal.main_arg3)
      ∧ r.2.mem ((c.tc : Thread Cert.MlstmKernelIdeal.nD Cert.MlstmKernelIdeal.τ).loc Cert.MlstmKernelIdeal.main_arg4) = m ((c.tc : Thread Cert.MlstmKernelIdeal.nD Cert.MlstmKernelIdeal.τ).loc Cert.MlstmKernelIdeal.main_arg4)
      ∧ r.2.mem ((c.tc : Thread Cert.MlstmKernelIdeal.nD Cert.MlstmKernelIdeal.τ).loc Cert.MlstmKernelIdeal.main_arg5) = m ((c.tc : Thread Cert.MlstmKernelIdeal.nD Cert.MlstmKernelIdeal.τ).loc Cert.MlstmKernelIdeal.main_arg5))
      ∧ r.2.sem = fun _ => 0)

def quiescent_MlstmReferenceIdeal [hMlstmReferenceIdeal : Cert.MlstmReferenceIdeal.Facts] : Prop :=
  ∀ (m : (ℓ : Loc Cert.MlstmReferenceIdeal.nD Cert.MlstmReferenceIdeal.τ Cert.MlstmReferenceIdeal.sig) → Buf (Elt Ideal) ℓ) (g : Dev Cert.MlstmReferenceIdeal.nD → PrngReg), Pre_MlstmReferenceIdeal m →
    θ_run (Cert.MlstmReferenceIdeal.defs (F := Ideal)) (onTc (τ := Cert.MlstmReferenceIdeal.τ) (Cert.MlstmReferenceIdeal.main (F := Ideal))) ⟨m, fun _ => 0, g⟩ (fun r => (∀ c : Dev Cert.MlstmReferenceIdeal.nD,
      r.2.mem ((c.tc : Thread Cert.MlstmReferenceIdeal.nD Cert.MlstmReferenceIdeal.τ).loc Cert.MlstmReferenceIdeal.main_arg0) = m ((c.tc : Thread Cert.MlstmReferenceIdeal.nD Cert.MlstmReferenceIdeal.τ).loc Cert.MlstmReferenceIdeal.main_arg0)
      ∧ r.2.mem ((c.tc : Thread Cert.MlstmReferenceIdeal.nD Cert.MlstmReferenceIdeal.τ).loc Cert.MlstmReferenceIdeal.main_arg1) = m ((c.tc : Thread Cert.MlstmReferenceIdeal.nD Cert.MlstmReferenceIdeal.τ).loc Cert.MlstmReferenceIdeal.main_arg1)
      ∧ r.2.mem ((c.tc : Thread Cert.MlstmReferenceIdeal.nD Cert.MlstmReferenceIdeal.τ).loc Cert.MlstmReferenceIdeal.main_arg2) = m ((c.tc : Thread Cert.MlstmReferenceIdeal.nD Cert.MlstmReferenceIdeal.τ).loc Cert.MlstmReferenceIdeal.main_arg2)
      ∧ r.2.mem ((c.tc : Thread Cert.MlstmReferenceIdeal.nD Cert.MlstmReferenceIdeal.τ).loc Cert.MlstmReferenceIdeal.main_arg3) = m ((c.tc : Thread Cert.MlstmReferenceIdeal.nD Cert.MlstmReferenceIdeal.τ).loc Cert.MlstmReferenceIdeal.main_arg3)
      ∧ r.2.mem ((c.tc : Thread Cert.MlstmReferenceIdeal.nD Cert.MlstmReferenceIdeal.τ).loc Cert.MlstmReferenceIdeal.main_arg4) = m ((c.tc : Thread Cert.MlstmReferenceIdeal.nD Cert.MlstmReferenceIdeal.τ).loc Cert.MlstmReferenceIdeal.main_arg4)
      ∧ r.2.mem ((c.tc : Thread Cert.MlstmReferenceIdeal.nD Cert.MlstmReferenceIdeal.τ).loc Cert.MlstmReferenceIdeal.main_arg5) = m ((c.tc : Thread Cert.MlstmReferenceIdeal.nD Cert.MlstmReferenceIdeal.τ).loc Cert.MlstmReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_SguKernel_SguKernelIdeal : Prop :=
  True

def algebraic_SguKernelIdeal_SguReferenceIdeal [hSguKernelIdeal : Cert.SguKernelIdeal.Facts] [hSguReferenceIdeal : Cert.SguReferenceIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguKernelIdeal m →
    (∀ c : Dev Cert.SguKernelIdeal.nD,
      m' ((c.tc : Thread Cert.SguReferenceIdeal.nD Cert.SguReferenceIdeal.τ).loc Cert.SguReferenceIdeal.main_arg0) = m ((c.tc : Thread Cert.SguKernelIdeal.nD Cert.SguKernelIdeal.τ).loc Cert.SguKernelIdeal.main_arg0)
      ∧ m' ((c.tc : Thread Cert.SguReferenceIdeal.nD Cert.SguReferenceIdeal.τ).loc Cert.SguReferenceIdeal.main_arg1) = m ((c.tc : Thread Cert.SguKernelIdeal.nD Cert.SguKernelIdeal.τ).loc Cert.SguKernelIdeal.main_arg1)
      ∧ m' ((c.tc : Thread Cert.SguReferenceIdeal.nD Cert.SguReferenceIdeal.τ).loc Cert.SguReferenceIdeal.main_arg2) = m ((c.tc : Thread Cert.SguKernelIdeal.nD Cert.SguKernelIdeal.τ).loc Cert.SguKernelIdeal.main_arg2)
      ∧ m' ((c.tc : Thread Cert.SguReferenceIdeal.nD Cert.SguReferenceIdeal.τ).loc Cert.SguReferenceIdeal.main_arg3) = m ((c.tc : Thread Cert.SguKernelIdeal.nD Cert.SguKernelIdeal.τ).loc Cert.SguKernelIdeal.main_arg3)) →
    ∃ (v0 : (c : Dev Cert.SguKernelIdeal.nD) → Buf (Elt Ideal) ((c.tc : Thread Cert.SguKernelIdeal.nD Cert.SguKernelIdeal.τ).loc Cert.SguKernelIdeal.main_v3)),
      θ_run (Cert.SguKernelIdeal.defs (F := Ideal)) (onTc (τ := Cert.SguKernelIdeal.τ) (Cert.SguKernelIdeal.main (F := Ideal))) ⟨m, fun _ => 0, g⟩ (fun r => ∀ c : Dev Cert.SguKernelIdeal.nD,
          r.2.mem ((c.tc : Thread Cert.SguKernelIdeal.nD Cert.SguKernelIdeal.τ).loc Cert.SguKernelIdeal.main_v3) = v0 c
          ∧ r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
          ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
          ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
          ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v15) = v0 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3))

def preserves_OutAbKernel_OutAbKernelIdeal : Prop :=
  True

def algebraic_OutAbKernelIdeal_OutAbReferenceIdeal [hOutAbKernelIdeal : Cert.OutAbKernelIdeal.Facts] [hOutAbReferenceIdeal : Cert.OutAbReferenceIdeal.Facts] : Prop :=
  ∀ (m : (ℓ : Loc Cert.OutAbKernelIdeal.nD Cert.OutAbKernelIdeal.τ Cert.OutAbKernelIdeal.sig) → Buf (Elt Ideal) ℓ) (g : Dev Cert.OutAbKernelIdeal.nD → PrngReg)
    (m' : (ℓ : Loc Cert.OutAbReferenceIdeal.nD Cert.OutAbReferenceIdeal.τ Cert.OutAbReferenceIdeal.sig) → Buf (Elt Ideal) ℓ) (g' : Dev Cert.OutAbReferenceIdeal.nD → PrngReg), Pre_OutAbKernelIdeal m →
    (∀ c : Dev Cert.OutAbKernelIdeal.nD,
      m' ((c.tc : Thread Cert.OutAbReferenceIdeal.nD Cert.OutAbReferenceIdeal.τ).loc Cert.OutAbReferenceIdeal.main_arg0) = m ((c.tc : Thread Cert.OutAbKernelIdeal.nD Cert.OutAbKernelIdeal.τ).loc Cert.OutAbKernelIdeal.main_arg0)
      ∧ m' ((c.tc : Thread Cert.OutAbReferenceIdeal.nD Cert.OutAbReferenceIdeal.τ).loc Cert.OutAbReferenceIdeal.main_arg1) = m ((c.tc : Thread Cert.OutAbKernelIdeal.nD Cert.OutAbKernelIdeal.τ).loc Cert.OutAbKernelIdeal.main_arg1)
      ∧ m' ((c.tc : Thread Cert.OutAbReferenceIdeal.nD Cert.OutAbReferenceIdeal.τ).loc Cert.OutAbReferenceIdeal.main_arg2) = m ((c.tc : Thread Cert.OutAbKernelIdeal.nD Cert.OutAbKernelIdeal.τ).loc Cert.OutAbKernelIdeal.main_arg2)
      ∧ m' ((c.tc : Thread Cert.OutAbReferenceIdeal.nD Cert.OutAbReferenceIdeal.τ).loc Cert.OutAbReferenceIdeal.main_arg3) = m ((c.tc : Thread Cert.OutAbKernelIdeal.nD Cert.OutAbKernelIdeal.τ).loc Cert.OutAbKernelIdeal.main_arg3)
      ∧ m' ((c.tc : Thread Cert.OutAbReferenceIdeal.nD Cert.OutAbReferenceIdeal.τ).loc Cert.OutAbReferenceIdeal.main_arg4) = m ((c.tc : Thread Cert.OutAbKernelIdeal.nD Cert.OutAbKernelIdeal.τ).loc Cert.OutAbKernelIdeal.main_arg4)
      ∧ m' ((c.tc : Thread Cert.OutAbReferenceIdeal.nD Cert.OutAbReferenceIdeal.τ).loc Cert.OutAbReferenceIdeal.main_arg5) = m ((c.tc : Thread Cert.OutAbKernelIdeal.nD Cert.OutAbKernelIdeal.τ).loc Cert.OutAbKernelIdeal.main_arg5)) →
    ∃ (v0 : (c : Dev Cert.OutAbKernelIdeal.nD) → Buf (Elt Ideal) ((c.tc : Thread Cert.OutAbKernelIdeal.nD Cert.OutAbKernelIdeal.τ).loc Cert.OutAbKernelIdeal.main_v6)),
      θ_run (Cert.OutAbKernelIdeal.defs (F := Ideal)) (onTc (τ := Cert.OutAbKernelIdeal.τ) (Cert.OutAbKernelIdeal.main (F := Ideal))) ⟨m, fun _ => 0, g⟩ (fun r => ∀ c : Dev Cert.OutAbKernelIdeal.nD,
          r.2.mem ((c.tc : Thread Cert.OutAbKernelIdeal.nD Cert.OutAbKernelIdeal.τ).loc Cert.OutAbKernelIdeal.main_v6) = v0 c
          ∧ r.2.mem ((c.tc : Thread Cert.OutAbKernelIdeal.nD Cert.OutAbKernelIdeal.τ).loc Cert.OutAbKernelIdeal.main_arg0) = m ((c.tc : Thread Cert.OutAbKernelIdeal.nD Cert.OutAbKernelIdeal.τ).loc Cert.OutAbKernelIdeal.main_arg0)
          ∧ r.2.mem ((c.tc : Thread Cert.OutAbKernelIdeal.nD Cert.OutAbKernelIdeal.τ).loc Cert.OutAbKernelIdeal.main_arg1) = m ((c.tc : Thread Cert.OutAbKernelIdeal.nD Cert.OutAbKernelIdeal.τ).loc Cert.OutAbKernelIdeal.main_arg1)
          ∧ r.2.mem ((c.tc : Thread Cert.OutAbKernelIdeal.nD Cert.OutAbKernelIdeal.τ).loc Cert.OutAbKernelIdeal.main_arg2) = m ((c.tc : Thread Cert.OutAbKernelIdeal.nD Cert.OutAbKernelIdeal.τ).loc Cert.OutAbKernelIdeal.main_arg2)
          ∧ r.2.mem ((c.tc : Thread Cert.OutAbKernelIdeal.nD Cert.OutAbKernelIdeal.τ).loc Cert.OutAbKernelIdeal.main_arg3) = m ((c.tc : Thread Cert.OutAbKernelIdeal.nD Cert.OutAbKernelIdeal.τ).loc Cert.OutAbKernelIdeal.main_arg3)
          ∧ r.2.mem ((c.tc : Thread Cert.OutAbKernelIdeal.nD Cert.OutAbKernelIdeal.τ).loc Cert.OutAbKernelIdeal.main_arg4) = m ((c.tc : Thread Cert.OutAbKernelIdeal.nD Cert.OutAbKernelIdeal.τ).loc Cert.OutAbKernelIdeal.main_arg4)
          ∧ r.2.mem ((c.tc : Thread Cert.OutAbKernelIdeal.nD Cert.OutAbKernelIdeal.τ).loc Cert.OutAbKernelIdeal.main_arg5) = m ((c.tc : Thread Cert.OutAbKernelIdeal.nD Cert.OutAbKernelIdeal.τ).loc Cert.OutAbKernelIdeal.main_arg5))
      ∧ θ_run (Cert.OutAbReferenceIdeal.defs (F := Ideal)) (onTc (τ := Cert.OutAbReferenceIdeal.τ) (Cert.OutAbReferenceIdeal.main (F := Ideal))) ⟨m', fun _ => 0, g'⟩ (fun r => ∀ c : Dev Cert.OutAbReferenceIdeal.nD,
          r.2.mem ((c.tc : Thread Cert.OutAbReferenceIdeal.nD Cert.OutAbReferenceIdeal.τ).loc Cert.OutAbReferenceIdeal.main_v30) = v0 c
          ∧ r.2.mem ((c.tc : Thread Cert.OutAbReferenceIdeal.nD Cert.OutAbReferenceIdeal.τ).loc Cert.OutAbReferenceIdeal.main_arg0) = m' ((c.tc : Thread Cert.OutAbReferenceIdeal.nD Cert.OutAbReferenceIdeal.τ).loc Cert.OutAbReferenceIdeal.main_arg0)
          ∧ r.2.mem ((c.tc : Thread Cert.OutAbReferenceIdeal.nD Cert.OutAbReferenceIdeal.τ).loc Cert.OutAbReferenceIdeal.main_arg1) = m' ((c.tc : Thread Cert.OutAbReferenceIdeal.nD Cert.OutAbReferenceIdeal.τ).loc Cert.OutAbReferenceIdeal.main_arg1)
          ∧ r.2.mem ((c.tc : Thread Cert.OutAbReferenceIdeal.nD Cert.OutAbReferenceIdeal.τ).loc Cert.OutAbReferenceIdeal.main_arg2) = m' ((c.tc : Thread Cert.OutAbReferenceIdeal.nD Cert.OutAbReferenceIdeal.τ).loc Cert.OutAbReferenceIdeal.main_arg2)
          ∧ r.2.mem ((c.tc : Thread Cert.OutAbReferenceIdeal.nD Cert.OutAbReferenceIdeal.τ).loc Cert.OutAbReferenceIdeal.main_arg3) = m' ((c.tc : Thread Cert.OutAbReferenceIdeal.nD Cert.OutAbReferenceIdeal.τ).loc Cert.OutAbReferenceIdeal.main_arg3)
          ∧ r.2.mem ((c.tc : Thread Cert.OutAbReferenceIdeal.nD Cert.OutAbReferenceIdeal.τ).loc Cert.OutAbReferenceIdeal.main_arg4) = m' ((c.tc : Thread Cert.OutAbReferenceIdeal.nD Cert.OutAbReferenceIdeal.τ).loc Cert.OutAbReferenceIdeal.main_arg4)
          ∧ r.2.mem ((c.tc : Thread Cert.OutAbReferenceIdeal.nD Cert.OutAbReferenceIdeal.τ).loc Cert.OutAbReferenceIdeal.main_arg5) = m' ((c.tc : Thread Cert.OutAbReferenceIdeal.nD Cert.OutAbReferenceIdeal.τ).loc Cert.OutAbReferenceIdeal.main_arg5))

def preserves_OutCKernel_OutCKernelIdeal : Prop :=
  True

def algebraic_OutCKernelIdeal_OutCReferenceIdeal [hOutCKernelIdeal : Cert.OutCKernelIdeal.Facts] [hOutCReferenceIdeal : Cert.OutCReferenceIdeal.Facts] : Prop :=
  ∀ (m : (ℓ : Loc Cert.OutCKernelIdeal.nD Cert.OutCKernelIdeal.τ Cert.OutCKernelIdeal.sig) → Buf (Elt Ideal) ℓ) (g : Dev Cert.OutCKernelIdeal.nD → PrngReg)
    (m' : (ℓ : Loc Cert.OutCReferenceIdeal.nD Cert.OutCReferenceIdeal.τ Cert.OutCReferenceIdeal.sig) → Buf (Elt Ideal) ℓ) (g' : Dev Cert.OutCReferenceIdeal.nD → PrngReg), Pre_OutCKernelIdeal m →
    (∀ c : Dev Cert.OutCKernelIdeal.nD,
      m' ((c.tc : Thread Cert.OutCReferenceIdeal.nD Cert.OutCReferenceIdeal.τ).loc Cert.OutCReferenceIdeal.main_arg0) = m ((c.tc : Thread Cert.OutCKernelIdeal.nD Cert.OutCKernelIdeal.τ).loc Cert.OutCKernelIdeal.main_arg0)
      ∧ m' ((c.tc : Thread Cert.OutCReferenceIdeal.nD Cert.OutCReferenceIdeal.τ).loc Cert.OutCReferenceIdeal.main_arg1) = m ((c.tc : Thread Cert.OutCKernelIdeal.nD Cert.OutCKernelIdeal.τ).loc Cert.OutCKernelIdeal.main_arg1)
      ∧ m' ((c.tc : Thread Cert.OutCReferenceIdeal.nD Cert.OutCReferenceIdeal.τ).loc Cert.OutCReferenceIdeal.main_arg2) = m ((c.tc : Thread Cert.OutCKernelIdeal.nD Cert.OutCKernelIdeal.τ).loc Cert.OutCKernelIdeal.main_arg2)
      ∧ m' ((c.tc : Thread Cert.OutCReferenceIdeal.nD Cert.OutCReferenceIdeal.τ).loc Cert.OutCReferenceIdeal.main_arg3) = m ((c.tc : Thread Cert.OutCKernelIdeal.nD Cert.OutCKernelIdeal.τ).loc Cert.OutCKernelIdeal.main_arg3)
      ∧ m' ((c.tc : Thread Cert.OutCReferenceIdeal.nD Cert.OutCReferenceIdeal.τ).loc Cert.OutCReferenceIdeal.main_arg4) = m ((c.tc : Thread Cert.OutCKernelIdeal.nD Cert.OutCKernelIdeal.τ).loc Cert.OutCKernelIdeal.main_arg4)) →
    ∃ (v0 : (c : Dev Cert.OutCKernelIdeal.nD) → Buf (Elt Ideal) ((c.tc : Thread Cert.OutCKernelIdeal.nD Cert.OutCKernelIdeal.τ).loc Cert.OutCKernelIdeal.main_v5)),
      θ_run (Cert.OutCKernelIdeal.defs (F := Ideal)) (onTc (τ := Cert.OutCKernelIdeal.τ) (Cert.OutCKernelIdeal.main (F := Ideal))) ⟨m, fun _ => 0, g⟩ (fun r => ∀ c : Dev Cert.OutCKernelIdeal.nD,
          r.2.mem ((c.tc : Thread Cert.OutCKernelIdeal.nD Cert.OutCKernelIdeal.τ).loc Cert.OutCKernelIdeal.main_v5) = v0 c
          ∧ r.2.mem ((c.tc : Thread Cert.OutCKernelIdeal.nD Cert.OutCKernelIdeal.τ).loc Cert.OutCKernelIdeal.main_arg0) = m ((c.tc : Thread Cert.OutCKernelIdeal.nD Cert.OutCKernelIdeal.τ).loc Cert.OutCKernelIdeal.main_arg0)
          ∧ r.2.mem ((c.tc : Thread Cert.OutCKernelIdeal.nD Cert.OutCKernelIdeal.τ).loc Cert.OutCKernelIdeal.main_arg1) = m ((c.tc : Thread Cert.OutCKernelIdeal.nD Cert.OutCKernelIdeal.τ).loc Cert.OutCKernelIdeal.main_arg1)
          ∧ r.2.mem ((c.tc : Thread Cert.OutCKernelIdeal.nD Cert.OutCKernelIdeal.τ).loc Cert.OutCKernelIdeal.main_arg2) = m ((c.tc : Thread Cert.OutCKernelIdeal.nD Cert.OutCKernelIdeal.τ).loc Cert.OutCKernelIdeal.main_arg2)
          ∧ r.2.mem ((c.tc : Thread Cert.OutCKernelIdeal.nD Cert.OutCKernelIdeal.τ).loc Cert.OutCKernelIdeal.main_arg3) = m ((c.tc : Thread Cert.OutCKernelIdeal.nD Cert.OutCKernelIdeal.τ).loc Cert.OutCKernelIdeal.main_arg3)
          ∧ r.2.mem ((c.tc : Thread Cert.OutCKernelIdeal.nD Cert.OutCKernelIdeal.τ).loc Cert.OutCKernelIdeal.main_arg4) = m ((c.tc : Thread Cert.OutCKernelIdeal.nD Cert.OutCKernelIdeal.τ).loc Cert.OutCKernelIdeal.main_arg4))
      ∧ θ_run (Cert.OutCReferenceIdeal.defs (F := Ideal)) (onTc (τ := Cert.OutCReferenceIdeal.τ) (Cert.OutCReferenceIdeal.main (F := Ideal))) ⟨m', fun _ => 0, g'⟩ (fun r => ∀ c : Dev Cert.OutCReferenceIdeal.nD,
          r.2.mem ((c.tc : Thread Cert.OutCReferenceIdeal.nD Cert.OutCReferenceIdeal.τ).loc Cert.OutCReferenceIdeal.main_v29) = v0 c
          ∧ r.2.mem ((c.tc : Thread Cert.OutCReferenceIdeal.nD Cert.OutCReferenceIdeal.τ).loc Cert.OutCReferenceIdeal.main_arg0) = m' ((c.tc : Thread Cert.OutCReferenceIdeal.nD Cert.OutCReferenceIdeal.τ).loc Cert.OutCReferenceIdeal.main_arg0)
          ∧ r.2.mem ((c.tc : Thread Cert.OutCReferenceIdeal.nD Cert.OutCReferenceIdeal.τ).loc Cert.OutCReferenceIdeal.main_arg1) = m' ((c.tc : Thread Cert.OutCReferenceIdeal.nD Cert.OutCReferenceIdeal.τ).loc Cert.OutCReferenceIdeal.main_arg1)
          ∧ r.2.mem ((c.tc : Thread Cert.OutCReferenceIdeal.nD Cert.OutCReferenceIdeal.τ).loc Cert.OutCReferenceIdeal.main_arg2) = m' ((c.tc : Thread Cert.OutCReferenceIdeal.nD Cert.OutCReferenceIdeal.τ).loc Cert.OutCReferenceIdeal.main_arg2)
          ∧ r.2.mem ((c.tc : Thread Cert.OutCReferenceIdeal.nD Cert.OutCReferenceIdeal.τ).loc Cert.OutCReferenceIdeal.main_arg3) = m' ((c.tc : Thread Cert.OutCReferenceIdeal.nD Cert.OutCReferenceIdeal.τ).loc Cert.OutCReferenceIdeal.main_arg3)
          ∧ r.2.mem ((c.tc : Thread Cert.OutCReferenceIdeal.nD Cert.OutCReferenceIdeal.τ).loc Cert.OutCReferenceIdeal.main_arg4) = m' ((c.tc : Thread Cert.OutCReferenceIdeal.nD Cert.OutCReferenceIdeal.τ).loc Cert.OutCReferenceIdeal.main_arg4))

def preserves_ProjAbKernel_ProjAbKernelIdeal : Prop :=
  True

def algebraic_ProjAbKernelIdeal_ProjAbReferenceIdeal [hProjAbKernelIdeal : Cert.ProjAbKernelIdeal.Facts] [hProjAbReferenceIdeal : Cert.ProjAbReferenceIdeal.Facts] : Prop :=
  ∀ (m : (ℓ : Loc Cert.ProjAbKernelIdeal.nD Cert.ProjAbKernelIdeal.τ Cert.ProjAbKernelIdeal.sig) → Buf (Elt Ideal) ℓ) (g : Dev Cert.ProjAbKernelIdeal.nD → PrngReg)
    (m' : (ℓ : Loc Cert.ProjAbReferenceIdeal.nD Cert.ProjAbReferenceIdeal.τ Cert.ProjAbReferenceIdeal.sig) → Buf (Elt Ideal) ℓ) (g' : Dev Cert.ProjAbReferenceIdeal.nD → PrngReg), Pre_ProjAbKernelIdeal m →
    (∀ c : Dev Cert.ProjAbKernelIdeal.nD,
      m' ((c.tc : Thread Cert.ProjAbReferenceIdeal.nD Cert.ProjAbReferenceIdeal.τ).loc Cert.ProjAbReferenceIdeal.main_arg0) = m ((c.tc : Thread Cert.ProjAbKernelIdeal.nD Cert.ProjAbKernelIdeal.τ).loc Cert.ProjAbKernelIdeal.main_arg0)
      ∧ m' ((c.tc : Thread Cert.ProjAbReferenceIdeal.nD Cert.ProjAbReferenceIdeal.τ).loc Cert.ProjAbReferenceIdeal.main_arg1) = m ((c.tc : Thread Cert.ProjAbKernelIdeal.nD Cert.ProjAbKernelIdeal.τ).loc Cert.ProjAbKernelIdeal.main_arg1)
      ∧ m' ((c.tc : Thread Cert.ProjAbReferenceIdeal.nD Cert.ProjAbReferenceIdeal.τ).loc Cert.ProjAbReferenceIdeal.main_arg2) = m ((c.tc : Thread Cert.ProjAbKernelIdeal.nD Cert.ProjAbKernelIdeal.τ).loc Cert.ProjAbKernelIdeal.main_arg2)
      ∧ m' ((c.tc : Thread Cert.ProjAbReferenceIdeal.nD Cert.ProjAbReferenceIdeal.τ).loc Cert.ProjAbReferenceIdeal.main_arg3) = m ((c.tc : Thread Cert.ProjAbKernelIdeal.nD Cert.ProjAbKernelIdeal.τ).loc Cert.ProjAbKernelIdeal.main_arg3)) →
    ∃ (v0 : (c : Dev Cert.ProjAbKernelIdeal.nD) → Buf (Elt Ideal) ((c.tc : Thread Cert.ProjAbKernelIdeal.nD Cert.ProjAbKernelIdeal.τ).loc Cert.ProjAbKernelIdeal.main_v24_0)) (v1 : (c : Dev Cert.ProjAbKernelIdeal.nD) → Buf (Elt Ideal) ((c.tc : Thread Cert.ProjAbKernelIdeal.nD Cert.ProjAbKernelIdeal.τ).loc Cert.ProjAbKernelIdeal.main_v24_1)) (v2 : (c : Dev Cert.ProjAbKernelIdeal.nD) → Buf (Elt Ideal) ((c.tc : Thread Cert.ProjAbKernelIdeal.nD Cert.ProjAbKernelIdeal.τ).loc Cert.ProjAbKernelIdeal.main_v24_2)) (v3 : (c : Dev Cert.ProjAbKernelIdeal.nD) → Buf (Elt Ideal) ((c.tc : Thread Cert.ProjAbKernelIdeal.nD Cert.ProjAbKernelIdeal.τ).loc Cert.ProjAbKernelIdeal.main_v24_3)) (v4 : (c : Dev Cert.ProjAbKernelIdeal.nD) → Buf (Elt Ideal) ((c.tc : Thread Cert.ProjAbKernelIdeal.nD Cert.ProjAbKernelIdeal.τ).loc Cert.ProjAbKernelIdeal.main_v24_4)),
      θ_run (Cert.ProjAbKernelIdeal.defs (F := Ideal)) (onTc (τ := Cert.ProjAbKernelIdeal.τ) (Cert.ProjAbKernelIdeal.main (F := Ideal))) ⟨m, fun _ => 0, g⟩ (fun r => ∀ c : Dev Cert.ProjAbKernelIdeal.nD,
          r.2.mem ((c.tc : Thread Cert.ProjAbKernelIdeal.nD Cert.ProjAbKernelIdeal.τ).loc Cert.ProjAbKernelIdeal.main_v24_0) = v0 c
          ∧ r.2.mem ((c.tc : Thread Cert.ProjAbKernelIdeal.nD Cert.ProjAbKernelIdeal.τ).loc Cert.ProjAbKernelIdeal.main_v24_1) = v1 c
          ∧ r.2.mem ((c.tc : Thread Cert.ProjAbKernelIdeal.nD Cert.ProjAbKernelIdeal.τ).loc Cert.ProjAbKernelIdeal.main_v24_2) = v2 c
          ∧ r.2.mem ((c.tc : Thread Cert.ProjAbKernelIdeal.nD Cert.ProjAbKernelIdeal.τ).loc Cert.ProjAbKernelIdeal.main_v24_3) = v3 c
          ∧ r.2.mem ((c.tc : Thread Cert.ProjAbKernelIdeal.nD Cert.ProjAbKernelIdeal.τ).loc Cert.ProjAbKernelIdeal.main_v24_4) = v4 c
          ∧ r.2.mem ((c.tc : Thread Cert.ProjAbKernelIdeal.nD Cert.ProjAbKernelIdeal.τ).loc Cert.ProjAbKernelIdeal.main_arg0) = m ((c.tc : Thread Cert.ProjAbKernelIdeal.nD Cert.ProjAbKernelIdeal.τ).loc Cert.ProjAbKernelIdeal.main_arg0)
          ∧ r.2.mem ((c.tc : Thread Cert.ProjAbKernelIdeal.nD Cert.ProjAbKernelIdeal.τ).loc Cert.ProjAbKernelIdeal.main_arg1) = m ((c.tc : Thread Cert.ProjAbKernelIdeal.nD Cert.ProjAbKernelIdeal.τ).loc Cert.ProjAbKernelIdeal.main_arg1)
          ∧ r.2.mem ((c.tc : Thread Cert.ProjAbKernelIdeal.nD Cert.ProjAbKernelIdeal.τ).loc Cert.ProjAbKernelIdeal.main_arg2) = m ((c.tc : Thread Cert.ProjAbKernelIdeal.nD Cert.ProjAbKernelIdeal.τ).loc Cert.ProjAbKernelIdeal.main_arg2)
          ∧ r.2.mem ((c.tc : Thread Cert.ProjAbKernelIdeal.nD Cert.ProjAbKernelIdeal.τ).loc Cert.ProjAbKernelIdeal.main_arg3) = m ((c.tc : Thread Cert.ProjAbKernelIdeal.nD Cert.ProjAbKernelIdeal.τ).loc Cert.ProjAbKernelIdeal.main_arg3))
      ∧ θ_run (Cert.ProjAbReferenceIdeal.defs (F := Ideal)) (onTc (τ := Cert.ProjAbReferenceIdeal.τ) (Cert.ProjAbReferenceIdeal.main (F := Ideal))) ⟨m', fun _ => 0, g'⟩ (fun r => ∀ c : Dev Cert.ProjAbReferenceIdeal.nD,
          r.2.mem ((c.tc : Thread Cert.ProjAbReferenceIdeal.nD Cert.ProjAbReferenceIdeal.τ).loc Cert.ProjAbReferenceIdeal.main_v129) = v0 c
          ∧ r.2.mem ((c.tc : Thread Cert.ProjAbReferenceIdeal.nD Cert.ProjAbReferenceIdeal.τ).loc Cert.ProjAbReferenceIdeal.main_v130) = v1 c
          ∧ r.2.mem ((c.tc : Thread Cert.ProjAbReferenceIdeal.nD Cert.ProjAbReferenceIdeal.τ).loc Cert.ProjAbReferenceIdeal.main_v131) = v2 c
          ∧ r.2.mem ((c.tc : Thread Cert.ProjAbReferenceIdeal.nD Cert.ProjAbReferenceIdeal.τ).loc Cert.ProjAbReferenceIdeal.main_v132) = v3 c
          ∧ r.2.mem ((c.tc : Thread Cert.ProjAbReferenceIdeal.nD Cert.ProjAbReferenceIdeal.τ).loc Cert.ProjAbReferenceIdeal.main_v133) = v4 c
          ∧ r.2.mem ((c.tc : Thread Cert.ProjAbReferenceIdeal.nD Cert.ProjAbReferenceIdeal.τ).loc Cert.ProjAbReferenceIdeal.main_arg0) = m' ((c.tc : Thread Cert.ProjAbReferenceIdeal.nD Cert.ProjAbReferenceIdeal.τ).loc Cert.ProjAbReferenceIdeal.main_arg0)
          ∧ r.2.mem ((c.tc : Thread Cert.ProjAbReferenceIdeal.nD Cert.ProjAbReferenceIdeal.τ).loc Cert.ProjAbReferenceIdeal.main_arg1) = m' ((c.tc : Thread Cert.ProjAbReferenceIdeal.nD Cert.ProjAbReferenceIdeal.τ).loc Cert.ProjAbReferenceIdeal.main_arg1)
          ∧ r.2.mem ((c.tc : Thread Cert.ProjAbReferenceIdeal.nD Cert.ProjAbReferenceIdeal.τ).loc Cert.ProjAbReferenceIdeal.main_arg2) = m' ((c.tc : Thread Cert.ProjAbReferenceIdeal.nD Cert.ProjAbReferenceIdeal.τ).loc Cert.ProjAbReferenceIdeal.main_arg2)
          ∧ r.2.mem ((c.tc : Thread Cert.ProjAbReferenceIdeal.nD Cert.ProjAbReferenceIdeal.τ).loc Cert.ProjAbReferenceIdeal.main_arg3) = m' ((c.tc : Thread Cert.ProjAbReferenceIdeal.nD Cert.ProjAbReferenceIdeal.τ).loc Cert.ProjAbReferenceIdeal.main_arg3))

def preserves_ProjCKernel_ProjCKernelIdeal : Prop :=
  True

def algebraic_ProjCKernelIdeal_ProjCReferenceIdeal [hProjCKernelIdeal : Cert.ProjCKernelIdeal.Facts] [hProjCReferenceIdeal : Cert.ProjCReferenceIdeal.Facts] : Prop :=
  ∀ (m : (ℓ : Loc Cert.ProjCKernelIdeal.nD Cert.ProjCKernelIdeal.τ Cert.ProjCKernelIdeal.sig) → Buf (Elt Ideal) ℓ) (g : Dev Cert.ProjCKernelIdeal.nD → PrngReg)
    (m' : (ℓ : Loc Cert.ProjCReferenceIdeal.nD Cert.ProjCReferenceIdeal.τ Cert.ProjCReferenceIdeal.sig) → Buf (Elt Ideal) ℓ) (g' : Dev Cert.ProjCReferenceIdeal.nD → PrngReg), Pre_ProjCKernelIdeal m →
    (∀ c : Dev Cert.ProjCKernelIdeal.nD,
      m' ((c.tc : Thread Cert.ProjCReferenceIdeal.nD Cert.ProjCReferenceIdeal.τ).loc Cert.ProjCReferenceIdeal.main_arg0) = m ((c.tc : Thread Cert.ProjCKernelIdeal.nD Cert.ProjCKernelIdeal.τ).loc Cert.ProjCKernelIdeal.main_arg0)
      ∧ m' ((c.tc : Thread Cert.ProjCReferenceIdeal.nD Cert.ProjCReferenceIdeal.τ).loc Cert.ProjCReferenceIdeal.main_arg1) = m ((c.tc : Thread Cert.ProjCKernelIdeal.nD Cert.ProjCKernelIdeal.τ).loc Cert.ProjCKernelIdeal.main_arg1)
      ∧ m' ((c.tc : Thread Cert.ProjCReferenceIdeal.nD Cert.ProjCReferenceIdeal.τ).loc Cert.ProjCReferenceIdeal.main_arg2) = m ((c.tc : Thread Cert.ProjCKernelIdeal.nD Cert.ProjCKernelIdeal.τ).loc Cert.ProjCKernelIdeal.main_arg2)
      ∧ m' ((c.tc : Thread Cert.ProjCReferenceIdeal.nD Cert.ProjCReferenceIdeal.τ).loc Cert.ProjCReferenceIdeal.main_arg3) = m ((c.tc : Thread Cert.ProjCKernelIdeal.nD Cert.ProjCKernelIdeal.τ).loc Cert.ProjCKernelIdeal.main_arg3)
      ∧ m' ((c.tc : Thread Cert.ProjCReferenceIdeal.nD Cert.ProjCReferenceIdeal.τ).loc Cert.ProjCReferenceIdeal.main_arg4) = m ((c.tc : Thread Cert.ProjCKernelIdeal.nD Cert.ProjCKernelIdeal.τ).loc Cert.ProjCKernelIdeal.main_arg4)
      ∧ m' ((c.tc : Thread Cert.ProjCReferenceIdeal.nD Cert.ProjCReferenceIdeal.τ).loc Cert.ProjCReferenceIdeal.main_arg5) = m ((c.tc : Thread Cert.ProjCKernelIdeal.nD Cert.ProjCKernelIdeal.τ).loc Cert.ProjCKernelIdeal.main_arg5)) →
    ∃ (v0 : (c : Dev Cert.ProjCKernelIdeal.nD) → Buf (Elt Ideal) ((c.tc : Thread Cert.ProjCKernelIdeal.nD Cert.ProjCKernelIdeal.τ).loc Cert.ProjCKernelIdeal.main_v16_0)) (v1 : (c : Dev Cert.ProjCKernelIdeal.nD) → Buf (Elt Ideal) ((c.tc : Thread Cert.ProjCKernelIdeal.nD Cert.ProjCKernelIdeal.τ).loc Cert.ProjCKernelIdeal.main_v16_1)) (v2 : (c : Dev Cert.ProjCKernelIdeal.nD) → Buf (Elt Ideal) ((c.tc : Thread Cert.ProjCKernelIdeal.nD Cert.ProjCKernelIdeal.τ).loc Cert.ProjCKernelIdeal.main_v16_2)) (v3 : (c : Dev Cert.ProjCKernelIdeal.nD) → Buf (Elt Ideal) ((c.tc : Thread Cert.ProjCKernelIdeal.nD Cert.ProjCKernelIdeal.τ).loc Cert.ProjCKernelIdeal.main_v16_3)) (v4 : (c : Dev Cert.ProjCKernelIdeal.nD) → Buf (Elt Ideal) ((c.tc : Thread Cert.ProjCKernelIdeal.nD Cert.ProjCKernelIdeal.τ).loc Cert.ProjCKernelIdeal.main_v16_4)) (v5 : (c : Dev Cert.ProjCKernelIdeal.nD) → Buf (Elt Ideal) ((c.tc : Thread Cert.ProjCKernelIdeal.nD Cert.ProjCKernelIdeal.τ).loc Cert.ProjCKernelIdeal.main_v16_5)),
      θ_run (Cert.ProjCKernelIdeal.defs (F := Ideal)) (onTc (τ := Cert.ProjCKernelIdeal.τ) (Cert.ProjCKernelIdeal.main (F := Ideal))) ⟨m, fun _ => 0, g⟩ (fun r => ∀ c : Dev Cert.ProjCKernelIdeal.nD,
          r.2.mem ((c.tc : Thread Cert.ProjCKernelIdeal.nD Cert.ProjCKernelIdeal.τ).loc Cert.ProjCKernelIdeal.main_v16_0) = v0 c
          ∧ r.2.mem ((c.tc : Thread Cert.ProjCKernelIdeal.nD Cert.ProjCKernelIdeal.τ).loc Cert.ProjCKernelIdeal.main_v16_1) = v1 c
          ∧ r.2.mem ((c.tc : Thread Cert.ProjCKernelIdeal.nD Cert.ProjCKernelIdeal.τ).loc Cert.ProjCKernelIdeal.main_v16_2) = v2 c
          ∧ r.2.mem ((c.tc : Thread Cert.ProjCKernelIdeal.nD Cert.ProjCKernelIdeal.τ).loc Cert.ProjCKernelIdeal.main_v16_3) = v3 c
          ∧ r.2.mem ((c.tc : Thread Cert.ProjCKernelIdeal.nD Cert.ProjCKernelIdeal.τ).loc Cert.ProjCKernelIdeal.main_v16_4) = v4 c
          ∧ r.2.mem ((c.tc : Thread Cert.ProjCKernelIdeal.nD Cert.ProjCKernelIdeal.τ).loc Cert.ProjCKernelIdeal.main_v16_5) = v5 c
          ∧ r.2.mem ((c.tc : Thread Cert.ProjCKernelIdeal.nD Cert.ProjCKernelIdeal.τ).loc Cert.ProjCKernelIdeal.main_arg0) = m ((c.tc : Thread Cert.ProjCKernelIdeal.nD Cert.ProjCKernelIdeal.τ).loc Cert.ProjCKernelIdeal.main_arg0)
          ∧ r.2.mem ((c.tc : Thread Cert.ProjCKernelIdeal.nD Cert.ProjCKernelIdeal.τ).loc Cert.ProjCKernelIdeal.main_arg1) = m ((c.tc : Thread Cert.ProjCKernelIdeal.nD Cert.ProjCKernelIdeal.τ).loc Cert.ProjCKernelIdeal.main_arg1)
          ∧ r.2.mem ((c.tc : Thread Cert.ProjCKernelIdeal.nD Cert.ProjCKernelIdeal.τ).loc Cert.ProjCKernelIdeal.main_arg2) = m ((c.tc : Thread Cert.ProjCKernelIdeal.nD Cert.ProjCKernelIdeal.τ).loc Cert.ProjCKernelIdeal.main_arg2)
          ∧ r.2.mem ((c.tc : Thread Cert.ProjCKernelIdeal.nD Cert.ProjCKernelIdeal.τ).loc Cert.ProjCKernelIdeal.main_arg3) = m ((c.tc : Thread Cert.ProjCKernelIdeal.nD Cert.ProjCKernelIdeal.τ).loc Cert.ProjCKernelIdeal.main_arg3)
          ∧ r.2.mem ((c.tc : Thread Cert.ProjCKernelIdeal.nD Cert.ProjCKernelIdeal.τ).loc Cert.ProjCKernelIdeal.main_arg4) = m ((c.tc : Thread Cert.ProjCKernelIdeal.nD Cert.ProjCKernelIdeal.τ).loc Cert.ProjCKernelIdeal.main_arg4)
          ∧ r.2.mem ((c.tc : Thread Cert.ProjCKernelIdeal.nD Cert.ProjCKernelIdeal.τ).loc Cert.ProjCKernelIdeal.main_arg5) = m ((c.tc : Thread Cert.ProjCKernelIdeal.nD Cert.ProjCKernelIdeal.τ).loc Cert.ProjCKernelIdeal.main_arg5))
      ∧ θ_run (Cert.ProjCReferenceIdeal.defs (F := Ideal)) (onTc (τ := Cert.ProjCReferenceIdeal.τ) (Cert.ProjCReferenceIdeal.main (F := Ideal))) ⟨m', fun _ => 0, g'⟩ (fun r => ∀ c : Dev Cert.ProjCReferenceIdeal.nD,
          r.2.mem ((c.tc : Thread Cert.ProjCReferenceIdeal.nD Cert.ProjCReferenceIdeal.τ).loc Cert.ProjCReferenceIdeal.main_v44) = v0 c
          ∧ r.2.mem ((c.tc : Thread Cert.ProjCReferenceIdeal.nD Cert.ProjCReferenceIdeal.τ).loc Cert.ProjCReferenceIdeal.main_v47) = v1 c
          ∧ r.2.mem ((c.tc : Thread Cert.ProjCReferenceIdeal.nD Cert.ProjCReferenceIdeal.τ).loc Cert.ProjCReferenceIdeal.main_v48) = v2 c
          ∧ r.2.mem ((c.tc : Thread Cert.ProjCReferenceIdeal.nD Cert.ProjCReferenceIdeal.τ).loc Cert.ProjCReferenceIdeal.main_v55) = v3 c
          ∧ r.2.mem ((c.tc : Thread Cert.ProjCReferenceIdeal.nD Cert.ProjCReferenceIdeal.τ).loc Cert.ProjCReferenceIdeal.main_v43) = v4 c
          ∧ r.2.mem ((c.tc : Thread Cert.ProjCReferenceIdeal.nD Cert.ProjCReferenceIdeal.τ).loc Cert.ProjCReferenceIdeal.main_v56) = v5 c
          ∧ r.2.mem ((c.tc : Thread Cert.ProjCReferenceIdeal.nD Cert.ProjCReferenceIdeal.τ).loc Cert.ProjCReferenceIdeal.main_arg0) = m' ((c.tc : Thread Cert.ProjCReferenceIdeal.nD Cert.ProjCReferenceIdeal.τ).loc Cert.ProjCReferenceIdeal.main_arg0)
          ∧ r.2.mem ((c.tc : Thread Cert.ProjCReferenceIdeal.nD Cert.ProjCReferenceIdeal.τ).loc Cert.ProjCReferenceIdeal.main_arg1) = m' ((c.tc : Thread Cert.ProjCReferenceIdeal.nD Cert.ProjCReferenceIdeal.τ).loc Cert.ProjCReferenceIdeal.main_arg1)
          ∧ r.2.mem ((c.tc : Thread Cert.ProjCReferenceIdeal.nD Cert.ProjCReferenceIdeal.τ).loc Cert.ProjCReferenceIdeal.main_arg2) = m' ((c.tc : Thread Cert.ProjCReferenceIdeal.nD Cert.ProjCReferenceIdeal.τ).loc Cert.ProjCReferenceIdeal.main_arg2)
          ∧ r.2.mem ((c.tc : Thread Cert.ProjCReferenceIdeal.nD Cert.ProjCReferenceIdeal.τ).loc Cert.ProjCReferenceIdeal.main_arg3) = m' ((c.tc : Thread Cert.ProjCReferenceIdeal.nD Cert.ProjCReferenceIdeal.τ).loc Cert.ProjCReferenceIdeal.main_arg3)
          ∧ r.2.mem ((c.tc : Thread Cert.ProjCReferenceIdeal.nD Cert.ProjCReferenceIdeal.τ).loc Cert.ProjCReferenceIdeal.main_arg4) = m' ((c.tc : Thread Cert.ProjCReferenceIdeal.nD Cert.ProjCReferenceIdeal.τ).loc Cert.ProjCReferenceIdeal.main_arg4)
          ∧ r.2.mem ((c.tc : Thread Cert.ProjCReferenceIdeal.nD Cert.ProjCReferenceIdeal.τ).loc Cert.ProjCReferenceIdeal.main_arg5) = m' ((c.tc : Thread Cert.ProjCReferenceIdeal.nD Cert.ProjCReferenceIdeal.τ).loc Cert.ProjCReferenceIdeal.main_arg5))

def preserves_MlstmKernel_MlstmKernelIdeal : Prop :=
  True

def Claim : Prop :=
  ∃ (hKernel : Cert.Kernel.Facts) (hKernelIdeal : Cert.KernelIdeal.Facts) (hReferenceIdeal : Cert.ReferenceIdeal.Facts) (hSguKernel : Cert.SguKernel.Facts) (hSguKernelIdeal : Cert.SguKernelIdeal.Facts) (hSguReferenceIdeal : Cert.SguReferenceIdeal.Facts) (hOutAbKernel : Cert.OutAbKernel.Facts) (hOutAbKernelIdeal : Cert.OutAbKernelIdeal.Facts) (hOutAbReferenceIdeal : Cert.OutAbReferenceIdeal.Facts) (hOutCKernel : Cert.OutCKernel.Facts) (hOutCKernelIdeal : Cert.OutCKernelIdeal.Facts) (hOutCReferenceIdeal : Cert.OutCReferenceIdeal.Facts) (hProjAbKernel : Cert.ProjAbKernel.Facts) (hProjAbKernelIdeal : Cert.ProjAbKernelIdeal.Facts) (hProjAbReferenceIdeal : Cert.ProjAbReferenceIdeal.Facts) (hProjCKernel : Cert.ProjCKernel.Facts) (hProjCKernelIdeal : Cert.ProjCKernelIdeal.Facts) (hProjCReferenceIdeal : Cert.ProjCReferenceIdeal.Facts) (hMlstmKernel : Cert.MlstmKernel.Facts) (hMlstmKernelIdeal : Cert.MlstmKernelIdeal.Facts) (hMlstmReferenceIdeal : Cert.MlstmReferenceIdeal.Facts),
    quiescent_Kernel (hKernel := hKernel)
    ∧ quiescent_KernelIdeal (hKernelIdeal := hKernelIdeal)
    ∧ quiescent_ReferenceIdeal (hReferenceIdeal := hReferenceIdeal)
    ∧ quiescent_SguKernel (hSguKernel := hSguKernel)
    ∧ quiescent_SguKernelIdeal (hSguKernelIdeal := hSguKernelIdeal)
    ∧ quiescent_SguReferenceIdeal (hSguReferenceIdeal := hSguReferenceIdeal)
    ∧ quiescent_OutAbKernel (hOutAbKernel := hOutAbKernel)
    ∧ quiescent_OutAbKernelIdeal (hOutAbKernelIdeal := hOutAbKernelIdeal)
    ∧ quiescent_OutAbReferenceIdeal (hOutAbReferenceIdeal := hOutAbReferenceIdeal)
    ∧ quiescent_OutCKernel (hOutCKernel := hOutCKernel)
    ∧ quiescent_OutCKernelIdeal (hOutCKernelIdeal := hOutCKernelIdeal)
    ∧ quiescent_OutCReferenceIdeal (hOutCReferenceIdeal := hOutCReferenceIdeal)
    ∧ quiescent_ProjAbKernel (hProjAbKernel := hProjAbKernel)
    ∧ quiescent_ProjAbKernelIdeal (hProjAbKernelIdeal := hProjAbKernelIdeal)
    ∧ quiescent_ProjAbReferenceIdeal (hProjAbReferenceIdeal := hProjAbReferenceIdeal)
    ∧ quiescent_ProjCKernel (hProjCKernel := hProjCKernel)
    ∧ quiescent_ProjCKernelIdeal (hProjCKernelIdeal := hProjCKernelIdeal)
    ∧ quiescent_ProjCReferenceIdeal (hProjCReferenceIdeal := hProjCReferenceIdeal)
    ∧ quiescent_MlstmKernel (hMlstmKernel := hMlstmKernel)
    ∧ quiescent_MlstmKernelIdeal (hMlstmKernelIdeal := hMlstmKernelIdeal)
    ∧ quiescent_MlstmReferenceIdeal (hMlstmReferenceIdeal := hMlstmReferenceIdeal)
    ∧ preserves_Kernel_KernelIdeal
    ∧ algebraic_KernelIdeal_ReferenceIdeal (hKernelIdeal := hKernelIdeal) (hReferenceIdeal := hReferenceIdeal)
    ∧ preserves_SguKernel_SguKernelIdeal
    ∧ algebraic_SguKernelIdeal_SguReferenceIdeal (hSguKernelIdeal := hSguKernelIdeal) (hSguReferenceIdeal := hSguReferenceIdeal)
    ∧ preserves_OutAbKernel_OutAbKernelIdeal
    ∧ algebraic_OutAbKernelIdeal_OutAbReferenceIdeal (hOutAbKernelIdeal := hOutAbKernelIdeal) (hOutAbReferenceIdeal := hOutAbReferenceIdeal)
    ∧ preserves_OutCKernel_OutCKernelIdeal
    ∧ algebraic_OutCKernelIdeal_OutCReferenceIdeal (hOutCKernelIdeal := hOutCKernelIdeal) (hOutCReferenceIdeal := hOutCReferenceIdeal)
    ∧ preserves_ProjAbKernel_ProjAbKernelIdeal
    ∧ algebraic_ProjAbKernelIdeal_ProjAbReferenceIdeal (hProjAbKernelIdeal := hProjAbKernelIdeal) (hProjAbReferenceIdeal := hProjAbReferenceIdeal)
    ∧ preserves_ProjCKernel_ProjCKernelIdeal
    ∧ algebraic_ProjCKernelIdeal_ProjCReferenceIdeal (hProjCKernelIdeal := hProjCKernelIdeal) (hProjCReferenceIdeal := hProjCReferenceIdeal)
    ∧ preserves_MlstmKernel_MlstmKernelIdeal
-- ==== Kernel.lean ====
abbrev S4x8192x1024 : Shape := ⟨3, ![4, 8192, 1024]⟩
abbrev S1024x5632 : Shape := ⟨2, ![1024, 5632]⟩
abbrev S2816x1024 : Shape := ⟨2, ![2816, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S32768x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x8192x1024 : Shape := ⟨3, ![4, 8192, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S4x8192x5632 : Shape := ⟨3, ![4, 8192, 5632]⟩
abbrev S4x8192x2816 : Shape := ⟨3, ![4, 8192, 2816]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4x8192x1024, .f32⟩
  | .hbm, ⟨7, _⟩ => ⟨S4x8192x1024, .f32⟩
  | .hbm, ⟨8, _⟩ => ⟨S4x8192x5632, .f32⟩
  | .hbm, ⟨9, _⟩ => ⟨S4x8192x2816, .f32⟩
  | .hbm, ⟨10, _⟩ => ⟨S4x8192x2816, .f32⟩
  | .hbm, ⟨11, _⟩ => ⟨S4x8192x2816, .f32⟩
  | .hbm, ⟨12, _⟩ => ⟨S4x8192x2816, .f32⟩
  | .hbm, ⟨13, _⟩ => ⟨S_, .f32⟩
  | .hbm, ⟨14, _⟩ => ⟨S4x8192x2816, .f32⟩
  | .hbm, ⟨15, _⟩ => ⟨S4x8192x2816, .f32⟩
  | .hbm, ⟨16, _⟩ => ⟨S_, .f32⟩
  | .hbm, ⟨17, _⟩ => ⟨S4x8192x2816, .f32⟩
  | .hbm, ⟨18, _⟩ => ⟨S4x8192x2816, .f32⟩
  | .hbm, ⟨19, _⟩ => ⟨S4x8192x2816, .f32⟩
  | .hbm, ⟨20, _⟩ => ⟨S4x8192x2816, .f32⟩
  | .hbm, ⟨21, _⟩ => ⟨S4x8192x1024, .f32⟩
  | .hbm, ⟨22, _⟩ => ⟨S_, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x1, .f32⟩
  | .hbm, ⟨47, _⟩ => ⟨S4x8192x1024, .f32⟩
  | .hbm, ⟨48, _⟩ => ⟨S4x8192x1024, .f32⟩
  | .hbm, ⟨49, _⟩ => ⟨S1x1x1024, .f32⟩
  | .hbm, ⟨50, _⟩ => ⟨S4x8192x1024, .f32⟩
  | .hbm, ⟨51, _⟩ => ⟨S4x8192x1024, .f32⟩
  | .hbm, ⟨52, _⟩ => ⟨S1x1x1024, .f32⟩
  | .hbm, ⟨53, _⟩ => ⟨S4x8192x1024, .f32⟩
  | .hbm, ⟨54, _⟩ => ⟨S4x8192x1024, .f32⟩
  | .hbm, ⟨55, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== SguKernel.lean ====
abbrev S4x8192x512 : Shape := ⟨3, ![4, 8192, 512]⟩
abbrev S8x128x128 : Shape := ⟨3, ![8, 128, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S1x512x512 : Shape := ⟨3, ![1, 512, 512]⟩
abbrev S128x128 : Shape := ⟨2, ![128, 128]⟩
abbrev S1x128x128 : Shape := ⟨3, ![1, 128, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S8x128x128, .f32⟩
  | .hbm, ⟨3, _⟩ => ⟨S8x128, .f32⟩
  | .hbm, ⟨4, _⟩ => ⟨S128x8, .f32⟩
  | .hbm, ⟨5, _⟩ => ⟨S128x8x64, .f32⟩
  | .hbm, ⟨6, _⟩ => ⟨S128x512, .f32⟩
  | .hbm, ⟨7, _⟩ => ⟨S4x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S8x128x128, .f32⟩
  | .local _ .vmem, ⟨5, _⟩ => ⟨S128x512, .f32⟩
  | .local _ .vmem, ⟨6, _⟩ => ⟨S1x512x512, .bf16⟩
  | .local _ .vmem, ⟨7, _⟩ => ⟨S1x512x512, .bf16⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SguReferenceIdeal.lean ====
abbrev S4x8192x512 : Shape := ⟨3, ![4, 8192, 512]⟩
abbrev S8x128x128 : Shape := ⟨3, ![8, 128, 128]⟩
abbrev S8x128 : Shape := ⟨2, ![8, 128]⟩
abbrev S4x64x128x8x64 : Shape := ⟨5, ![4, 64, 128, 8, 64]⟩
abbrev S_ : Shape := ⟨0, ![]⟩
abbrev S128x128 : Shape := ⟨2, ![128, 128]⟩
abbrev S8x4x64x64x128 : Shape := ⟨5, ![8, 4, 64, 64, 128]⟩
abbrev S128x8 : Shape := ⟨2, ![128, 8]⟩
abbrev S1x1x128x8x1 : Shape := ⟨5, ![1, 1, 128, 8, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S8x128x128, .f32⟩
  | .hbm, ⟨3, _⟩ => ⟨S8x128, .f32⟩
  | .hbm, ⟨4, _⟩ => ⟨S4x64x128x8x64, .bf16⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S_, .f32⟩
  | .hbm, ⟨17, _⟩ => ⟨S8x128x128, .f32⟩
  | .hbm, ⟨18, _⟩ => ⟨S8x128x128, .i1⟩
  | .hbm, ⟨19, _⟩ => ⟨S8x128x128, .f32⟩
  | .hbm, ⟨20, _⟩ => ⟨S4x64x128x8x64, .f32⟩
  | .hbm, ⟨21, _⟩ => ⟨S8x4x64x64x128, .f32⟩
  | .hbm, ⟨22, _⟩ => ⟨S4x64x128x8x64, .f32⟩
  | .hbm, ⟨23, _⟩ => ⟨S128x8, .f32⟩
  | .hbm, ⟨24, _⟩ => ⟨S1x1x128x8x1, .f32⟩
  | .hbm, ⟨25, _⟩ => ⟨S4x64x128x8x64, .f32⟩
  | .hbm, ⟨26, _⟩ => ⟨S4x64x128x8x64, .f32⟩
  | .hbm, ⟨27, _⟩ => ⟨S4x8192x512, .f32⟩
  | .hbm, ⟨28, _⟩ => ⟨S4x8192x512, .f32⟩
  | .hbm, ⟨29, _⟩ => ⟨S4x8192x512, .f32⟩
  | .hbm, ⟨30, _⟩ => ⟨S4x8192x512, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩

abbrev nD : Nat := 1
abbrev τ : Topo := Topo.v7x

variable {F : FTy → Type} [FloatOps F]
-- ==== OutAbKernel.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S32768x1024 : Shape := ⟨2, ![32768, 1024]⟩
abbrev S32768x512 : Shape := ⟨2, ![32768, 512]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S32768x1024, .f32⟩
  | .hbm, ⟨7, _⟩ => ⟨S32768x512, .bf16⟩
  | .hbm, ⟨8, _⟩ => ⟨S32768x512, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutAbReferenceIdeal.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S4x8192x1024, .bf16⟩
  | .hbm, ⟨7, _⟩ => ⟨S4x8192x1024, .f32⟩
  | .hbm, ⟨8, _⟩ => ⟨S4x8192x1024, .f32⟩
  | .hbm, ⟨9, _⟩ => ⟨S_, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S4x8192x1024, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S_, .f32⟩
  | .hbm, ⟨26, _⟩ => ⟨S4x8192x1, .f32⟩
  | .hbm, ⟨27, _⟩ => ⟨S4x8192x1, .f32⟩
  | .hbm, ⟨28, _⟩ => ⟨S4x8192x1024, .f32⟩
  | .hbm, ⟨29, _⟩ => ⟨S4x8192x1024, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S4x8192x1, .f32⟩
  | .hbm, ⟨34, _⟩ => ⟨S4x8192x1024, .f32⟩
  | .hbm, ⟨35, _⟩ => ⟨S4x8192x1024, .f32⟩
  | .hbm, ⟨36, _⟩ => ⟨S1x1x1024, .f32⟩
  | .hbm, ⟨37, _⟩ => ⟨S4x8192x1024, .f32⟩
  | .hbm, ⟨38, _⟩ => ⟨S4x8192x1024, .f32⟩
  | .hbm, ⟨39, _⟩ => ⟨S1x1x1024, .f32⟩
  | .hbm, ⟨40, _⟩ => ⟨S4x8192x1024, .f32⟩
  | .hbm, ⟨41, _⟩ => ⟨S4x8192x1024, .f32⟩
  | .hbm, ⟨42, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== OutCKernel.lean ====
abbrev S4x8192x1024 : Shape := ⟨3, ![4, 8192, 1024]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S32768x1024, .f32⟩
  | .hbm, ⟨6, _⟩ => ⟨S32768x1024, .bf16⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutCReferenceIdeal.lean ====
abbrev S4x8192x1024 : Shape := ⟨3, ![4, 8192, 1024]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S4x8192x1024, .f32⟩
  | .hbm, ⟨6, _⟩ => ⟨S4x8192x1024, .f32⟩
  | .hbm, ⟨7, _⟩ => ⟨S_, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S4x8192x1024, .f32⟩
  | .hbm, ⟨27, _⟩ => ⟨S4x8192x1024, .f32⟩
  | .hbm, ⟨28, _⟩ => ⟨S_, .f32⟩
  | .hbm, ⟨29, _⟩ => ⟨S4x8192x1, .f32⟩
  | .hbm, ⟨30, _⟩ => ⟨S4x8192x1, .f32⟩
  | .hbm, ⟨31, _⟩ => ⟨S4x8192x1, .f32⟩
  | .hbm, ⟨32, _⟩ => ⟨S4x8192x1024, .f32⟩
  | .hbm, ⟨33, _⟩ => ⟨S4x8192x1024, .f32⟩
  | .hbm, ⟨34, _⟩ => ⟨S1x1x1024, .f32⟩
  | .hbm, ⟨35, _⟩ => ⟨S4x8192x1024, .f32⟩
  | .hbm, ⟨36, _⟩ => ⟨S4x8192x1024, .f32⟩
  | .hbm, ⟨37, _⟩ => ⟨S1x1x1024, .f32⟩
  | .hbm, ⟨38, _⟩ => ⟨S4x8192x1024, .f32⟩
  | .hbm, ⟨39, _⟩ => ⟨S4x8192x1024, .f32⟩
  | .hbm, ⟨40, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== ProjAbKernel.lean ====
abbrev S4x8192x1024 : Shape := ⟨3, ![4, 8192, 1024]⟩
abbrev S1024x2560 : Shape := ⟨2, ![1024, 2560]⟩
abbrev S512 : Shape := ⟨1, ![512]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S1x512 : Shape := ⟨2, ![1, 512]⟩
abbrev S4x8192x512 : Shape := ⟨3, ![4, 8192, 512]⟩
abbrev S1x512x1024 : Shape := ⟨3, ![1, 512, 1024]⟩
abbrev S512x128 : Shape := ⟨2, ![512, 128]⟩
abbrev S1x512x512 : Shape := ⟨3, ![1, 512, 512]⟩
abbrev S512x1024 : Shape := ⟨2, ![512, 1024]⟩
abbrev S1024x128 : Shape := ⟨2, ![1024, 128]⟩
abbrev S1x512x128 : Shape := ⟨3, ![1, 512, 128]⟩
abbrev S1024x512 : Shape := ⟨2, ![1024, 512]⟩
abbrev S512x512 : Shape := ⟨2, ![512, 512]⟩
abbrev S512x1 : Shape := ⟨2, ![512, 1]⟩

abbrev nBuf : Space → Nat
  | .hbm => 35
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S1024x2560, .f32⟩
  | .hbm, ⟨2, _⟩ => ⟨S512, .f32⟩
  | .hbm, ⟨3, _⟩ => ⟨S512, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S8192, .i32⟩
  | .hbm, ⟨13, _⟩ => ⟨S8192, .f32⟩
  | .hbm, ⟨14, _⟩ => ⟨S8192x1, .f32⟩
  | .hbm, ⟨15, _⟩ => ⟨S1x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S1x8192x1x32, .f32⟩
  | .hbm, ⟨22, _⟩ => ⟨S1x8192x4x32, .f32⟩
  | .hbm, ⟨23, _⟩ => ⟨S8192x128, .f32⟩
  | .hbm, ⟨24, _⟩ => ⟨S1x8192x1x32, .f32⟩
  | .hbm, ⟨25, _⟩ => ⟨S1x8192x4x32, .f32⟩
  | .hbm, ⟨26, _⟩ => ⟨S8192x128, .f32⟩
  | .hbm, ⟨27, _⟩ => ⟨S1024x2560, .bf16⟩
  | .hbm, ⟨28, _⟩ => ⟨S1x512, .f32⟩
  | .hbm, ⟨29, _⟩ => ⟨S1x512, .f32⟩
  | .hbm, ⟨30, _⟩ => ⟨S4x8192x512, .bf16⟩
  | .hbm, ⟨31, _⟩ => ⟨S4x8192x512, .bf16⟩
  | .hbm, ⟨32, _⟩ => ⟨S4x8192x512, .bf16⟩
  | .hbm, ⟨33, _⟩ => ⟨S4x8192x512, .bf16⟩
  | .hbm, ⟨34, _⟩ => ⟨S4x8192x512, .bf16⟩
  | .local _ .vmem, ⟨0, _⟩ => ⟨S1x512x1024, .f32⟩
  | .local _ .vmem, ⟨1, _⟩ => ⟨S1x512x1024, .f32⟩
  | .local _ .vmem, ⟨2, _⟩ => ⟨S1024x2560, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1x512, .f32⟩
  | .local _ .vmem, ⟨8, _⟩ => ⟨S1x512, .f32⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24_0 : Ref sig .tc := ⟨.hbm, 30, rfl⟩
abbrev main_v24_1 : Ref sig .tc := ⟨.hbm, 31, rfl⟩
abbrev main_v24_2 : Ref sig .tc := ⟨.hbm, 32, rfl⟩
abbrev main_v24_3 : Ref sig .tc := ⟨.hbm, 33, rfl⟩
abbrev main_v24_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ProjAbReferenceIdeal.lean ====
abbrev S4x8192x1024 : Shape := ⟨3, ![4, 8192, 1024]⟩
abbrev S1024x2560 : Shape := ⟨2, ![1024, 2560]⟩
abbrev S512 : Shape := ⟨1, ![512]⟩
abbrev S4x8192x2560 : Shape := ⟨3, ![4, 8192, 2560]⟩
abbrev S4x8192x512 : Shape := ⟨3, ![4, 8192, 512]⟩
abbrev S8192 : Shape := ⟨1, ![8192]⟩
abbrev S4x8192x8x64 : Shape := ⟨4, ![4, 8192, 8, 64]⟩
abbrev S4x8x8192x64 : Shape := ⟨4, ![4, 8, 8192, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S4x8x8192x32 : Shape := ⟨4, ![4, 8, 8192, 32]⟩
abbrev S1x1x8192x32 : Shape := ⟨4, ![1, 1, 8192, 32]⟩
abbrev S4x8192 : Shape := ⟨2, ![4, 8192]⟩
abbrev S4x8192x1 : Shape := ⟨3, ![4, 8192, 1]⟩
abbrev S1x1x512 : Shape := ⟨3, ![1, 1, 512]⟩

abbrev nBuf : Space → Nat
  | .hbm => 156
  | .vmem => 0
  | .smem => 0
  | _ => 0

abbrev hbmTy0_0 (i : Nat) : BufTy := match i % 128 with
  | 0 => ⟨S4x8192x1024, .f32⟩
  | 1 => ⟨S1024x2560, .f32⟩
  | 2 => ⟨S512, .f32⟩
  | 3 => ⟨S512, .f32⟩
  | 4 => ⟨S4x8192x2560, .f32⟩
  | 5 => ⟨S4x8192x512, .f32⟩
  | 6 => ⟨S4x8192x512, .f32⟩
  | 7 => ⟨S4x8192x512, .f32⟩
  | 8 => ⟨S4x8192x512, .f32⟩
  | 9 => ⟨S4x8192x512, .f32⟩
  | 10 => ⟨S8192, .i32⟩
  | 11 => ⟨S4x8192x8x64, .f32⟩
  | 12 => ⟨S4x8x8192x64, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S8192, .f32⟩
  | 22 => ⟨S8192x1, .f32⟩
  | 23 => ⟨S1x32, .f32⟩
  | 24 => ⟨S8192x32, .f32⟩
  | 25 => ⟨S8192x32, .f32⟩
  | 26 => ⟨S8192x32, .f32⟩
  | 27 => ⟨S8192x32, .f32⟩
  | 28 => ⟨S8192x32, .f32⟩
  | 29 => ⟨S4x8x8192x32, .f32⟩
  | 30 => ⟨S4x8x8192x32, .f32⟩
  | 31 => ⟨S1x1x8192x32, .f32⟩
  | 32 => ⟨S4x8x8192x32, .f32⟩
  | 33 => ⟨S4x8x8192x32, .f32⟩
  | 34 => ⟨S1x1x8192x32, .f32⟩
  | 35 => ⟨S4x8x8192x32, .f32⟩
  | 36 => ⟨S4x8x8192x32, .f32⟩
  | 37 => ⟨S4x8x8192x32, .f32⟩
  | 38 => ⟨S1x1x8192x32, .f32⟩
  | 39 => ⟨S4x8x8192x32, .f32⟩
  | 40 => ⟨S4x8x8192x32, .f32⟩
  | 41 => ⟨S1x1x8192x32, .f32⟩
  | 42 => ⟨S4x8x8192x32, .f32⟩
  | 43 => ⟨S4x8x8192x32, .f32⟩
  | 44 => ⟨S4x8x8192x32, .f32⟩
  | 45 => ⟨S4x8x8192x64, .f32⟩
  | 46 => ⟨S_, .f32⟩
  | 47 => ⟨S4x8x8192x64, .f32⟩
  | 48 => ⟨S4x8x8192x64, .f32⟩
  | 49 => ⟨S4x8192x8x64, .f32⟩
  | 50 => ⟨S4x8192x512, .f32⟩
  | 51 => ⟨S4x8192x8x64, .f32⟩
  | 52 => ⟨S4x8x8192x64, .f32⟩
  | 53 => ⟨S32, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S8192, .f32⟩
  | 62 => ⟨S8192x1, .f32⟩
  | 63 => ⟨S1x32, .f32⟩
  | 64 => ⟨S8192x32, .f32⟩
  | 65 => ⟨S8192x32, .f32⟩
  | 66 => ⟨S8192x32, .f32⟩
  | 67 => ⟨S8192x32, .f32⟩
  | 68 => ⟨S8192x32, .f32⟩
  | 69 => ⟨S4x8x8192x32, .f32⟩
  | 70 => ⟨S4x8x8192x32, .f32⟩
  | 71 => ⟨S1x1x8192x32, .f32⟩
  | 72 => ⟨S4x8x8192x32, .f32⟩
  | 73 => ⟨S4x8x8192x32, .f32⟩
  | 74 => ⟨S1x1x8192x32, .f32⟩
  | 75 => ⟨S4x8x8192x32, .f32⟩
  | 76 => ⟨S4x8x8192x32, .f32⟩
  | 77 => ⟨S4x8x8192x32, .f32⟩
  | 78 => ⟨S1x1x8192x32, .f32⟩
  | 79 => ⟨S4x8x8192x32, .f32⟩
  | 80 => ⟨S4x8x8192x32, .f32⟩
  | 81 => ⟨S1x1x8192x32, .f32⟩
  | 82 => ⟨S4x8x8192x32, .f32⟩
  | 83 => ⟨S4x8x8192x32, .f32⟩
  | 84 => ⟨S4x8x8192x32, .f32⟩
  | 85 => ⟨S4x8x8192x64, .f32⟩
  | 86 => ⟨S4x8192x8x64, .f32⟩
  | 87 => ⟨S4x8192x512, .f32⟩
  | 88 => ⟨S4x8192x512, .f32⟩
  | 89 => ⟨S4x8192x512, .f32⟩
  | 90 => ⟨S_, .f32⟩
  | 91 => ⟨S4x8192x512, .f32⟩
  | 92 => ⟨S4x8192x512, .f32⟩
  | 93 => ⟨S4x8192x512, .f32⟩
  | 94 => ⟨S_, .f32⟩
  | 95 => ⟨S4x8192x512, .f32⟩
  | 96 => ⟨S4x8192x512, .f32⟩
  | 97 => ⟨S4x8192x512, .f32⟩
  | 98 => ⟨S_, .f32⟩
  | 99 => ⟨S4x8192x512, .f32⟩
  | 100 => ⟨S4x8192x512, .f32⟩
  | 101 => ⟨S_, .f32⟩
  | 102 => ⟨S4x8192x512, .f32⟩
  | 103 => ⟨S4x8192x512, .f32⟩
  | 104 => ⟨S4x8192x512, .f32⟩
  | 105 => ⟨S_, .f32⟩
  | 106 => ⟨S4x8192, .f32⟩
  | 107 => ⟨S4x8192x1, .f32⟩
  | 108 => ⟨S_, .f32⟩
  | 109 => ⟨S4x8192x1, .f32⟩
  | 110 => ⟨S4x8192x1, .f32⟩
  | 111 => ⟨S4x8192x512, .f32⟩
  | 112 => ⟨S4x8192x512, .f32⟩
  | 113 => ⟨S4x8192x512, .f32⟩
  | 114 => ⟨S_, .f32⟩
  | 115 => ⟨S4x8192, .f32⟩
  | 116 => ⟨S4x8192x1, .f32⟩
  | 117 => ⟨S_, .f32⟩
  | 118 => ⟨S4x8192x1, .f32⟩
  | 119 => ⟨S4x8192x1, .f32⟩
  | 120 => ⟨S4x8192x512, .f32⟩
  | 121 => ⟨S4x8192x512, .f32⟩
  | 122 => ⟨S_, .f32⟩
  | 123 => ⟨S4x8192x1, .f32⟩
  | 124 => ⟨S4x8192x1, .f32⟩
  | 125 => ⟨S4x8192x1, .f32⟩
  | 126 => ⟨S4x8192x512, .f32⟩
  | 127 => ⟨S4x8192x512, .f32⟩
  | _ => ⟨S4x8192x1024, .f32⟩

abbrev hbmTy0_1 (i : Nat) : BufTy := match i % 128 with
  | 0 => ⟨S1x1x512, .f32⟩
  | 1 => ⟨S4x8192x512, .f32⟩
  | 2 => ⟨S4x8192x512, .f32⟩
  | 3 => ⟨S1x1x512, .f32⟩
  | 4 => ⟨S4x8192x512, .f32⟩
  | 5 => ⟨S4x8192x512, .f32⟩
  | 6 => ⟨S4x8192x512, .f32⟩
  | 7 => ⟨S4x8192x512, .f32⟩
  | 8 => ⟨S_, .f32⟩
  | 9 => ⟨S4x8192x512, .f32⟩
  | 10 => ⟨S4x8192x512, .f32⟩
  | 11 => ⟨S4x8192x512, .f32⟩
  | 12 => ⟨S_, .f32⟩
  | 13 => ⟨S4x8192x512, .f32⟩
  | 14 => ⟨S4x8192x512, .f32⟩
  | 15 => ⟨S4x8192x512, .f32⟩
  | 16 => ⟨S_, .f32⟩
  | 17 => ⟨S4x8192x512, .f32⟩
  | 18 => ⟨S4x8192x512, .f32⟩
  | 19 => ⟨S_, .f32⟩
  | 20 => ⟨S4x8192x512, .f32⟩
  | 21 => ⟨S4x8192x512, .f32⟩
  | 22 => ⟨S4x8192x512, .f32⟩
  | 23 => ⟨S4x8192x512, .bf16⟩
  | 24 => ⟨S4x8192x512, .bf16⟩
  | 25 => ⟨S4x8192x512, .bf16⟩
  | 26 => ⟨S4x8192x512, .bf16⟩
  | 27 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_1 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_2 : Ref sig .tc := ⟨.hbm, 55, rfl⟩
abbrev main_v48 : Ref sig .tc := ⟨.hbm, 56, rfl⟩
abbrev main_v49 : Ref sig .tc := ⟨.hbm, 57, rfl⟩
abbrev main_cst_3 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_cst_4 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_cst_5 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_cst_6 : Ref sig .tc := ⟨.hbm, 98, rfl⟩
abbrev main_v87 : Ref sig .tc := ⟨.hbm, 99, rfl⟩
abbrev main_v88 : Ref sig .tc := ⟨.hbm, 100, rfl⟩
abbrev main_cst_7 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_cst_8 : Ref sig .tc := ⟨.hbm, 105, rfl⟩
abbrev main_v92 : Ref sig .tc := ⟨.hbm, 106, rfl⟩
abbrev main_v93 : Ref sig .tc := ⟨.hbm, 107, rfl⟩
abbrev main_cst_9 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_cst_10 : Ref sig .tc := ⟨.hbm, 114, rfl⟩
abbrev main_v99 : Ref sig .tc := ⟨.hbm, 115, rfl⟩
abbrev main_v100 : Ref sig .tc := ⟨.hbm, 116, rfl⟩
abbrev main_cst_11 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_cst_12 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_13 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_cst_14 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_cst_15 : Ref sig .tc := ⟨.hbm, 144, rfl⟩
abbrev main_v124 : Ref sig .tc := ⟨.hbm, 145, rfl⟩
abbrev main_v125 : Ref sig .tc := ⟨.hbm, 146, rfl⟩
abbrev main_cst_16 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩

abbrev nD : Nat := 1
abbrev τ : Topo := Topo.v7x

variable {F : FTy → Type} [FloatOps F]
-- ==== ProjCKernel.lean ====
abbrev S4x8192x1024 : Shape := ⟨3, ![4, 8192, 1024]⟩
abbrev S1024x3080 : Shape := ⟨2, ![1024, 3080]⟩
abbrev S4x1024 : Shape := ⟨2, ![4, 1024]⟩
abbrev S1024 : Shape := ⟨1, ![1024]⟩
abbrev S4 : Shape := ⟨1, ![4]⟩
abbrev S1024x1024 : Shape := ⟨2, ![1024, 1024]⟩
abbrev S1024x8 : Shape := ⟨2, ![1024, 8]⟩
abbrev S_ : Shape := ⟨0, ![]⟩
abbrev S1024x128 : Shape := ⟨2, ![1024, 128]⟩
abbrev S8x1024 : Shape := ⟨2, ![8, 1024]⟩
abbrev S8 : Shape := ⟨1, ![8]⟩
abbrev S128 : Shape := ⟨1, ![128]⟩
abbrev S1x128 : Shape := ⟨2, ![1, 128]⟩
abbrev S8x1 : Shape := ⟨2, ![8, 1]⟩
abbrev S1x1024 : Shape := ⟨2, ![1, 1024]⟩
abbrev S4x8192x512 : Shape := ⟨3, ![4, 8192, 512]⟩
abbrev S4x8192x128 : Shape := ⟨3, ![4, 8192, 128]⟩
abbrev S4x8x8192 : Shape := ⟨3, ![4, 8, 8192]⟩
abbrev S1x512x1024 : Shape := ⟨3, ![1, 512, 1024]⟩
abbrev S1x512x512 : Shape := ⟨3, ![1, 512, 512]⟩
abbrev S1x512x128 : Shape := ⟨3, ![1, 512, 128]⟩
abbrev S1x8x512 : Shape := ⟨3, ![1, 8, 512]⟩
abbrev S512x1024 : Shape := ⟨2, ![512, 1024]⟩
abbrev S520x1024 : Shape := ⟨2, ![520, 1024]⟩
abbrev S512x512 : Shape := ⟨2, ![512, 512]⟩
abbrev S512x128 : Shape := ⟨2, ![512, 128]⟩
abbrev S8x512 : Shape := ⟨2, ![8, 512]⟩

abbrev nBuf : Space → Nat
  | .hbm => 32
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S1024x3080, .f32⟩
  | .hbm, ⟨2, _⟩ => ⟨S4x1024, .f32⟩
  | .hbm, ⟨3, _⟩ => ⟨S1024, .f32⟩
  | .hbm, ⟨4, _⟩ => ⟨S4, .f32⟩
  | .hbm, ⟨5, _⟩ => ⟨S4, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x8, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S8x1024, .f32⟩
  | .hbm, ⟨18, _⟩ => ⟨S8x1024, .bf16⟩
  | .hbm, ⟨19, _⟩ => ⟨S8, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S8x1, .f32⟩
  | .hbm, ⟨25, _⟩ => ⟨S1x1024, .f32⟩
  | .hbm, ⟨26, _⟩ => ⟨S4x8192x512, .bf16⟩
  | .hbm, ⟨27, _⟩ => ⟨S4x8192x512, .bf16⟩
  | .hbm, ⟨28, _⟩ => ⟨S4x8192x1024, .bf16⟩
  | .hbm, ⟨29, _⟩ => ⟨S4x8192x1024, .bf16⟩
  | .hbm, ⟨30, _⟩ => ⟨S4x8192x128, .f32⟩
  | .hbm, ⟨31, _⟩ => ⟨S4x8x8192, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S8x1024, .bf16⟩
  | .local _ .vmem, ⟨7, _⟩ => ⟨S4x1024, .f32⟩
  | .local _ .vmem, ⟨8, _⟩ => ⟨S1x1024, .f32⟩
  | .local _ .vmem, ⟨9, _⟩ => ⟨S1x128, .f32⟩
  | .local _ .vmem, ⟨10, _⟩ => ⟨S8x1, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x128, .f32⟩
  | .local _ .vmem, ⟨20, _⟩ => ⟨S1x512x128, .f32⟩
  | .local _ .vmem, ⟨21, _⟩ => ⟨S1x8x512, .f32⟩
  | .local _ .vmem, ⟨22, _⟩ => ⟨S1x8x512, .f32⟩
  | .local _ .vmem, ⟨23, _⟩ => ⟨S8x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ProjCReferenceIdeal.lean ====
abbrev S4x8192x1024 : Shape := ⟨3, ![4, 8192, 1024]⟩
abbrev S1024x3080 : Shape := ⟨2, ![1024, 3080]⟩
abbrev S4x1024 : Shape := ⟨2, ![4, 1024]⟩
abbrev S1024 : Shape := ⟨1, ![1024]⟩
abbrev S4 : Shape := ⟨1, ![4]⟩
abbrev S4x8192x3080 : Shape := ⟨3, ![4, 8192, 3080]⟩
abbrev S4x8192x8 : Shape := ⟨3, ![4, 8192, 8]⟩
abbrev S_ : Shape := ⟨0, ![]⟩
abbrev S4x8195x1024 : Shape := ⟨3, ![4, 8195, 1024]⟩
abbrev S1x1024 : Shape := ⟨2, ![1, 1024]⟩
abbrev S1x1x1024 : Shape := ⟨3, ![1, 1, 1024]⟩
abbrev S4x8192x512 : Shape := ⟨3, ![4, 8192, 512]⟩
abbrev S8 : Shape := ⟨1, ![8]⟩
abbrev S1x1x8 : Shape := ⟨3, ![1, 1, 8]⟩
abbrev S4x8192x128 : Shape := ⟨3, ![4, 8192, 128]⟩
abbrev S4x8x8192 : Shape := ⟨3, ![4, 8, 8192]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x3080, .f32⟩
  | .hbm, ⟨2, _⟩ => ⟨S4x1024, .f32⟩
  | .hbm, ⟨3, _⟩ => ⟨S1024, .f32⟩
  | .hbm, ⟨4, _⟩ => ⟨S4, .f32⟩
  | .hbm, ⟨5, _⟩ => ⟨S4, .f32⟩
  | .hbm, ⟨6, _⟩ => ⟨S4x8192x3080, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S4x8192x8, .f32⟩
  | .hbm, ⟨11, _⟩ => ⟨S_, .i32⟩
  | .hbm, ⟨12, _⟩ => ⟨S_, .f32⟩
  | .hbm, ⟨13, _⟩ => ⟨S4x8195x1024, .f32⟩
  | .hbm, ⟨14, _⟩ => ⟨S1x1024, .f32⟩
  | .hbm, ⟨15, _⟩ => ⟨S1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S1x1024, .f32⟩
  | .hbm, ⟨21, _⟩ => ⟨S1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S1x1024, .f32⟩
  | .hbm, ⟨28, _⟩ => ⟨S1024, .f32⟩
  | .hbm, ⟨29, _⟩ => ⟨S4x8192x1024, .f32⟩
  | .hbm, ⟨30, _⟩ => ⟨S1x1x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S1x1024, .f32⟩
  | .hbm, ⟨35, _⟩ => ⟨S1024, .f32⟩
  | .hbm, ⟨36, _⟩ => ⟨S4x8192x1024, .f32⟩
  | .hbm, ⟨37, _⟩ => ⟨S1x1x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S1x1x1024, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S_, .f32⟩
  | .hbm, ⟨47, _⟩ => ⟨S4x8192x1024, .f32⟩
  | .hbm, ⟨48, _⟩ => ⟨S4x8192x1024, .f32⟩
  | .hbm, ⟨49, _⟩ => ⟨S_, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x512, .f32⟩
  | .hbm, ⟨54, _⟩ => ⟨S4x8192x512, .f32⟩
  | .hbm, ⟨55, _⟩ => ⟨S8, .f32⟩
  | .hbm, ⟨56, _⟩ => ⟨S1x1x8, .f32⟩
  | .hbm, ⟨57, _⟩ => ⟨S4x8192x8, .f32⟩
  | .hbm, ⟨58, _⟩ => ⟨S4x8192x8, .f32⟩
  | .hbm, ⟨59, _⟩ => ⟨S_, .i32⟩
  | .hbm, ⟨60, _⟩ => ⟨S_, .f32⟩
  | .hbm, ⟨61, _⟩ => ⟨S4x8192x128, .f32⟩
  | .hbm, ⟨62, _⟩ => ⟨S4x8192x512, .bf16⟩
  | .hbm, ⟨63, _⟩ => ⟨S_, .f32⟩
  | .hbm, ⟨64, _⟩ => ⟨S4x8192x512, .f32⟩
  | .hbm, ⟨65, _⟩ => ⟨S4x8192x512, .f32⟩
  | .hbm, ⟨66, _⟩ => ⟨S4x8192x512, .bf16⟩
  | .hbm, ⟨67, _⟩ => ⟨S4x8192x1024, .bf16⟩
  | .hbm, ⟨68, _⟩ => ⟨S4x8192x1024, .f32⟩
  | .hbm, ⟨69, _⟩ => ⟨S4x8192x1024, .f32⟩
  | .hbm, ⟨70, _⟩ => ⟨S_, .f32⟩
  | .hbm, ⟨71, _⟩ => ⟨S4x8192x1024, .f32⟩
  | .hbm, ⟨72, _⟩ => ⟨S4x8192x1024, .f32⟩
  | .hbm, ⟨73, _⟩ => ⟨S_, .f32⟩
  | .hbm, ⟨74, _⟩ => ⟨S4x8192x1024, .f32⟩
  | .hbm, ⟨75, _⟩ => ⟨S4x8192x1024, .f32⟩
  | .hbm, ⟨76, _⟩ => ⟨S4x8192x1024, .bf16⟩
  | .hbm, ⟨77, _⟩ => ⟨S4x8x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_0 : Ref sig .tc := ⟨.hbm, 59, rfl⟩
abbrev main_call2_v0 : Ref sig .tc := ⟨.hbm, 60, rfl⟩
abbrev main_v43 : Ref sig .tc := ⟨.hbm, 61, rfl⟩
abbrev main_v44 : Ref sig .tc := ⟨.hbm, 62, rfl⟩
abbrev main_cst : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_1 : Ref sig .tc := ⟨.hbm, 70, rfl⟩
abbrev main_v51 : Ref sig .tc := ⟨.hbm, 71, rfl⟩
abbrev main_v52 : Ref sig .tc := ⟨.hbm, 72, rfl⟩
abbrev main_cst_2 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== MlstmKernel.lean ====
abbrev S4x8192x512 : Shape := ⟨3, ![4, 8192, 512]⟩
abbrev S4x8192x1024 : Shape := ⟨3, ![4, 8192, 1024]⟩
abbrev S4x8192x8 : Shape := ⟨3, ![4, 8192, 8]⟩
abbrev S1024 : Shape := ⟨1, ![1024]⟩
abbrev S_ : Shape := ⟨0, ![]⟩
abbrev S4x8192x128 : Shape := ⟨3, ![4, 8192, 128]⟩
abbrev S4x8x8192 : Shape := ⟨3, ![4, 8, 8192]⟩
abbrev S1x1024 : Shape := ⟨2, ![1, 1024]⟩
abbrev S1x256x512 : Shape := ⟨3, ![1, 256, 512]⟩
abbrev S1x256x1024 : Shape := ⟨3, ![1, 256, 1024]⟩
abbrev S1x256x128 : Shape := ⟨3, ![1, 256, 128]⟩
abbrev S1x8x256 : Shape := ⟨3, ![1, 8, 256]⟩
abbrev S4x128x256 : Shape := ⟨3, ![4, 128, 256]⟩
abbrev S4x1x128 : Shape := ⟨3, ![4, 1, 128]⟩
abbrev S256x256 : Shape := ⟨2, ![256, 256]⟩
abbrev S256x128 : Shape := ⟨2, ![256, 128]⟩
abbrev S8x256 : Shape := ⟨2, ![8, 256]⟩
abbrev S256x1 : Shape := ⟨2, ![256, 1]⟩
abbrev S1x256 : Shape := ⟨2, ![1, 256]⟩
abbrev S1x1 : Shape := ⟨2, ![1, 1]⟩
abbrev S1x1x128 : Shape := ⟨3, ![1, 1, 128]⟩
abbrev S1x128 : Shape := ⟨2, ![1, 128]⟩
abbrev S1 : Shape := ⟨1, ![1]⟩
abbrev S256 : Shape := ⟨1, ![256]⟩
abbrev S1x256x256 : Shape := ⟨3, ![1, 256, 256]⟩
abbrev S1x128x256 : Shape := ⟨3, ![1, 128, 256]⟩
abbrev S128x256 : Shape := ⟨2, ![128, 256]⟩
abbrev S128 : Shape := ⟨1, ![128]⟩

abbrev nBuf : Space → Nat
  | .hbm => 12
  | .vmem => 18
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x1024, .bf16⟩
  | .hbm, ⟨3, _⟩ => ⟨S4x8192x1024, .bf16⟩
  | .hbm, ⟨4, _⟩ => ⟨S4x8192x8, .f32⟩
  | .hbm, ⟨5, _⟩ => ⟨S1024, .f32⟩
  | .hbm, ⟨6, _⟩ => ⟨S_, .i32⟩
  | .hbm, ⟨7, _⟩ => ⟨S_, .f32⟩
  | .hbm, ⟨8, _⟩ => ⟨S4x8192x128, .f32⟩
  | .hbm, ⟨9, _⟩ => ⟨S4x8x8192, .f32⟩
  | .hbm, ⟨10, _⟩ => ⟨S1x1024, .f32⟩
  | .hbm, ⟨11, _⟩ => ⟨S4x8192x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x128, .f32⟩
  | .local _ .vmem, ⟨9, _⟩ => ⟨S1x256x128, .f32⟩
  | .local _ .vmem, ⟨10, _⟩ => ⟨S1x8x256, .f32⟩
  | .local _ .vmem, ⟨11, _⟩ => ⟨S1x8x256, .f32⟩
  | .local _ .vmem, ⟨12, _⟩ => ⟨S1x1024, .f32⟩
  | .local _ .vmem, ⟨13, _⟩ => ⟨S1x256x1024, .bf16⟩
  | .local _ .vmem, ⟨14, _⟩ => ⟨S1x256x1024, .bf16⟩
  | .local _ .vmem, ⟨15, _⟩ => ⟨S4x128x256, .f32⟩
  | .local _ .vmem, ⟨16, _⟩ => ⟨S4x1x128, .f32⟩
  | .local _ .vmem, ⟨17, _⟩ => ⟨S4x1x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MlstmReferenceIdeal.lean ====
abbrev S4x8192x512 : Shape := ⟨3, ![4, 8192, 512]⟩
abbrev S4x8192x1024 : Shape := ⟨3, ![4, 8192, 1024]⟩
abbrev S4x8192x8 : Shape := ⟨3, ![4, 8192, 8]⟩
abbrev S1024 : Shape := ⟨1, ![1024]⟩
abbrev S4x8192x4x128 : Shape := ⟨4, ![4, 8192, 4, 128]⟩
abbrev S4x4x8192x128 : Shape := ⟨4, ![4, 4, 8192, 128]⟩
abbrev S4x8192x4x256 : Shape := ⟨4, ![4, 8192, 4, 256]⟩
abbrev S4x4x8192x256 : Shape := ⟨4, ![4, 4, 8192, 256]⟩
abbrev S4x8192x4 : Shape := ⟨3, ![4, 8192, 4]⟩
abbrev S4x4x8192 : Shape := ⟨3, ![4, 4, 8192]⟩
abbrev S_ : Shape := ⟨0, ![]⟩
abbrev S8192x8192 : Shape := ⟨2, ![8192, 8192]⟩
abbrev S4x4x8192x1 : Shape := ⟨4, ![4, 4, 8192, 1]⟩
abbrev S4x4x1x8192 : Shape := ⟨4, ![4, 4, 1, 8192]⟩
abbrev S4x4x8192x8192 : Shape := ⟨4, ![4, 4, 8192, 8192]⟩
abbrev S4x1x256 : Shape := ⟨3, ![4, 1, 256]⟩
abbrev S1x4x1x256 : Shape := ⟨4, ![1, 4, 1, 256]⟩

abbrev nBuf : Space → Nat
  | .hbm => 113
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x1024, .bf16⟩
  | .hbm, ⟨3, _⟩ => ⟨S4x8192x1024, .bf16⟩
  | .hbm, ⟨4, _⟩ => ⟨S4x8192x8, .f32⟩
  | .hbm, ⟨5, _⟩ => ⟨S1024, .f32⟩
  | .hbm, ⟨6, _⟩ => ⟨S4x8192x512, .f32⟩
  | .hbm, ⟨7, _⟩ => ⟨S4x8192x4x128, .f32⟩
  | .hbm, ⟨8, _⟩ => ⟨S4x4x8192x128, .f32⟩
  | .hbm, ⟨9, _⟩ => ⟨S4x8192x512, .f32⟩
  | .hbm, ⟨10, _⟩ => ⟨S4x8192x4x128, .f32⟩
  | .hbm, ⟨11, _⟩ => ⟨S4x4x8192x128, .f32⟩
  | .hbm, ⟨12, _⟩ => ⟨S4x8192x1024, .f32⟩
  | .hbm, ⟨13, _⟩ => ⟨S4x8192x4x256, .f32⟩
  | .hbm, ⟨14, _⟩ => ⟨S4x4x8192x256, .f32⟩
  | .hbm, ⟨15, _⟩ => ⟨S4x8192x4, .f32⟩
  | .hbm, ⟨16, _⟩ => ⟨S4x4x8192, .f32⟩
  | .hbm, ⟨17, _⟩ => ⟨S4x8192x4, .f32⟩
  | .hbm, ⟨18, _⟩ => ⟨S4x4x8192, .f32⟩
  | .hbm, ⟨19, _⟩ => ⟨S4x4x8192, .f32⟩
  | .hbm, ⟨20, _⟩ => ⟨S_, .f32⟩
  | .hbm, ⟨21, _⟩ => ⟨S4x4x8192, .f32⟩
  | .hbm, ⟨22, _⟩ => ⟨S4x4x8192, .f32⟩
  | .hbm, ⟨23, _⟩ => ⟨S4x4x8192, .f32⟩
  | .hbm, ⟨24, _⟩ => ⟨S4x4x8192, .f32⟩
  | .hbm, ⟨25, _⟩ => ⟨S4x4x8192, .i1⟩
  | .hbm, ⟨26, _⟩ => ⟨S4x4x8192, .f32⟩
  | .hbm, ⟨27, _⟩ => ⟨S4x4x8192, .f32⟩
  | .hbm, ⟨28, _⟩ => ⟨S4x4x8192, .f32⟩
  | .hbm, ⟨29, _⟩ => ⟨S4x4x8192, .f32⟩
  | .hbm, ⟨30, _⟩ => ⟨S4x4x8192, .f32⟩
  | .hbm, ⟨31, _⟩ => ⟨S4x4x8192, .f32⟩
  | .hbm, ⟨32, _⟩ => ⟨S4x4x8192, .f32⟩
  | .hbm, ⟨33, _⟩ => ⟨S4x4x8192, .f32⟩
  | .hbm, ⟨34, _⟩ => ⟨S4x4x8192, .f32⟩
  | .hbm, ⟨35, _⟩ => ⟨S_, .f32⟩
  | .hbm, ⟨36, _⟩ => ⟨S_, .f32⟩
  | .hbm, ⟨37, _⟩ => ⟨S4x4x8192, .f32⟩
  | .hbm, ⟨38, _⟩ => ⟨S_, .i1⟩
  | .hbm, ⟨39, _⟩ => ⟨S8192x8192, .i1⟩
  | .hbm, ⟨40, _⟩ => ⟨S8192x8192, .i32⟩
  | .hbm, ⟨41, _⟩ => ⟨S_, .i32⟩
  | .hbm, ⟨42, _⟩ => ⟨S8192x8192, .i32⟩
  | .hbm, ⟨43, _⟩ => ⟨S8192x8192, .i32⟩
  | .hbm, ⟨44, _⟩ => ⟨S8192x8192, .i32⟩
  | .hbm, ⟨45, _⟩ => ⟨S8192x8192, .i1⟩
  | .hbm, ⟨46, _⟩ => ⟨S_, .i1⟩
  | .hbm, ⟨47, _⟩ => ⟨S8192x8192, .i1⟩
  | .hbm, ⟨48, _⟩ => ⟨S8192x8192, .i1⟩
  | .hbm, ⟨49, _⟩ => ⟨S4x4x8192x1, .f32⟩
  | .hbm, ⟨50, _⟩ => ⟨S4x4x1x8192, .f32⟩
  | .hbm, ⟨51, _⟩ => ⟨S4x4x8192x8192, .f32⟩
  | .hbm, ⟨52, _⟩ => ⟨S4x4x8192x8192, .f32⟩
  | .hbm, ⟨53, _⟩ => ⟨S4x4x8192x8192, .f32⟩
  | .hbm, ⟨54, _⟩ => ⟨S4x4x1x8192, .f32⟩
  | .hbm, ⟨55, _⟩ => ⟨S4x4x8192x8192, .f32⟩
  | .hbm, ⟨56, _⟩ => ⟨S4x4x8192x8192, .f32⟩
  | .hbm, ⟨57, _⟩ => ⟨S_, .f32⟩
  | .hbm, ⟨58, _⟩ => ⟨S_, .f32⟩
  | .hbm, ⟨59, _⟩ => ⟨S4x4x8192x8192, .i1⟩
  | .hbm, ⟨60, _⟩ => ⟨S4x4x8192x8192, .f32⟩
  | .hbm, ⟨61, _⟩ => ⟨S4x4x8192x8192, .f32⟩
  | .hbm, ⟨62, _⟩ => ⟨S_, .f32⟩
  | .hbm, ⟨63, _⟩ => ⟨S4x4x8192, .f32⟩
  | .hbm, ⟨64, _⟩ => ⟨S4x4x8192, .f32⟩
  | .hbm, ⟨65, _⟩ => ⟨S4x4x8192x1, .f32⟩
  | .hbm, ⟨66, _⟩ => ⟨S4x4x8192x8192, .f32⟩
  | .hbm, ⟨67, _⟩ => ⟨S4x4x8192x8192, .f32⟩
  | .hbm, ⟨68, _⟩ => ⟨S4x4x8192x8192, .f32⟩
  | .hbm, ⟨69, _⟩ => ⟨S4x4x8192x8192, .f32⟩
  | .hbm, ⟨70, _⟩ => ⟨S4x4x8192x8192, .f32⟩
  | .hbm, ⟨71, _⟩ => ⟨S4x4x8192x256, .f32⟩
  | .hbm, ⟨72, _⟩ => ⟨S_, .f32⟩
  | .hbm, ⟨73, _⟩ => ⟨S4x4x8192, .f32⟩
  | .hbm, ⟨74, _⟩ => ⟨S4x4x8192, .f32⟩
  | .hbm, ⟨75, _⟩ => ⟨S4x4x8192, .f32⟩
  | .hbm, ⟨76, _⟩ => ⟨S4x4x8192, .f32⟩
  | .hbm, ⟨77, _⟩ => ⟨S4x4x8192, .f32⟩
  | .hbm, ⟨78, _⟩ => ⟨S4x4x8192x1, .f32⟩
  | .hbm, ⟨79, _⟩ => ⟨S4x4x8192x256, .f32⟩
  | .hbm, ⟨80, _⟩ => ⟨S4x4x8192x256, .f32⟩
  | .hbm, ⟨81, _⟩ => ⟨S_, .f32⟩
  | .hbm, ⟨82, _⟩ => ⟨S4x4x8192, .f32⟩
  | .hbm, ⟨83, _⟩ => ⟨S4x4x8192x1, .f32⟩
  | .hbm, ⟨84, _⟩ => ⟨S_, .f32⟩
  | .hbm, ⟨85, _⟩ => ⟨S4x4x8192x1, .f32⟩
  | .hbm, ⟨86, _⟩ => ⟨S4x4x8192x1, .f32⟩
  | .hbm, ⟨87, _⟩ => ⟨S4x4x8192x256, .f32⟩
  | .hbm, ⟨88, _⟩ => ⟨S4x4x8192x256, .f32⟩
  | .hbm, ⟨89, _⟩ => ⟨S4x4x8192x256, .f32⟩
  | .hbm, ⟨90, _⟩ => ⟨S_, .f32⟩
  | .hbm, ⟨91, _⟩ => ⟨S4x4x8192, .f32⟩
  | .hbm, ⟨92, _⟩ => ⟨S4x4x8192x1, .f32⟩
  | .hbm, ⟨93, _⟩ => ⟨S_, .f32⟩
  | .hbm, ⟨94, _⟩ => ⟨S4x4x8192x1, .f32⟩
  | .hbm, ⟨95, _⟩ => ⟨S4x4x8192x1, .f32⟩
  | .hbm, ⟨96, _⟩ => ⟨S4x4x8192x256, .f32⟩
  | .hbm, ⟨97, _⟩ => ⟨S4x4x8192x256, .f32⟩
  | .hbm, ⟨98, _⟩ => ⟨S_, .f32⟩
  | .hbm, ⟨99, _⟩ => ⟨S4x4x8192x1, .f32⟩
  | .hbm, ⟨100, _⟩ => ⟨S4x4x8192x1, .f32⟩
  | .hbm, ⟨101, _⟩ => ⟨S4x4x8192x1, .f32⟩
  | .hbm, ⟨102, _⟩ => ⟨S4x4x8192x256, .f32⟩
  | .hbm, ⟨103, _⟩ => ⟨S4x4x8192x256, .f32⟩
  | .hbm, ⟨104, _⟩ => ⟨S4x1x256, .f32⟩
  | .hbm, ⟨105, _⟩ => ⟨S1x4x1x256, .f32⟩
  | .hbm, ⟨106, _⟩ => ⟨S4x4x8192x256, .f32⟩
  | .hbm, ⟨107, _⟩ => ⟨S4x4x8192x256, .f32⟩
  | .hbm, ⟨108, _⟩ => ⟨S4x8192x4x256, .f32⟩
  | .hbm, ⟨109, _⟩ => ⟨S4x8192x1024, .f32⟩
  | .hbm, ⟨110, _⟩ => ⟨S4x8192x1024, .f32⟩
  | .hbm, ⟨111, _⟩ => ⟨S4x8192x1024, .f32⟩
  | .hbm, ⟨112, _⟩ => ⟨S4x8192x1024, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v13 : Ref sig .tc := ⟨.hbm, 34, rfl⟩
abbrev main_call1_call0_cst : Ref sig .tc := ⟨.hbm, 35, rfl⟩
abbrev main_call1_call0_v0 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_call2_v0 : Ref sig .tc := ⟨.hbm, 40, rfl⟩
abbrev main_call2_c : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_c_0 : Ref sig .tc := ⟨.hbm, 46, rfl⟩
abbrev main_call2_v5 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_v25 : Ref sig .tc := ⟨.hbm, 61, rfl⟩
abbrev main_cst_0 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_1 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_2 : Ref sig .tc := ⟨.hbm, 81, rfl⟩
abbrev main_v43 : Ref sig .tc := ⟨.hbm, 82, rfl⟩
abbrev main_v44 : Ref sig .tc := ⟨.hbm, 83, rfl⟩
abbrev main_cst_3 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_4 : Ref sig .tc := ⟨.hbm, 90, rfl⟩
abbrev main_v50 : Ref sig .tc := ⟨.hbm, 91, rfl⟩
abbrev main_v51 : Ref sig .tc := ⟨.hbm, 92, rfl⟩
abbrev main_cst_5 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_6 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩

abbrev nD : Nat := 1
abbrev τ : Topo := Topo.v7x

variable {F : FTy → Type} [FloatOps F]
-- ==== Proof.FfnSpec.lean ====
/-
  The SwiGLU half-step with its post-norm, as plain functions on the extended reals: what one row of the
  activations is sent to. Both the kernel's blocks and the reference's array are read into these terms.
-/
module

public import Idealize.ShloMosaic.Lib.Pointwise

@[expose] public section

noncomputable section

open Idealize.ShloMosaic

namespace Cert.FfnSpec

/-- The constants of the layer norm and of the residual: the words both programs print. -/
abbrev alpha : EReal := Ideal.ofBits .f32 0x3FB504F3#32
abbrev half : EReal := Ideal.ofBits .f32 0x3F000000#32
abbrev width : EReal := Ideal.ofBits .f32 0x44800000#32
abbrev eps : EReal := Ideal.ofBits .f32 0x3727C5AC#32

/-- The mean of a row of 1024. -/
def rowMean (z : Fin 1024 → EReal) : EReal := Ideal.div (∑ k, z k) width

/-- The layer norm of a row at column `c`, with gain and bias already read there. -/
def lnorm (z : Fin 1024 → EReal) (g b : EReal) (c : Fin 1024) : EReal :=
  (z c - rowMean z) * Ideal.rsqrt (rowMean (fun k => (z k - rowMean z) * (z k - rowMean z)) + eps) * g + b

/-- One hidden unit's term at one output column: from its gate product, its up product and its down weight. -/
def unitTerm (g u d : EReal) : EReal := g * Ideal.logistic g * u * d

/-- Hidden unit `n`'s contribution to column `c`, `0` past the last unit. -/
def term (x : Fin 1024 → EReal) (w : Fin 1024 → Fin 5632 → EReal) (d : Fin 2816 → Fin 1024 → EReal) (c : Fin 1024)
    (n : ℕ) : EReal :=
  if h : n < 2816 then
    unitTerm (∑ k, x k * w k ⟨n, by omega⟩) (∑ k, x k * w k ⟨2816 + n, by omega⟩) (d ⟨n, h⟩ c)
  else 0

/-- The row after the half-step's residual: `alpha * x + half * swiglu x`. -/
def resid (x : Fin 1024 → EReal) (w : Fin 1024 → Fin 5632 → EReal) (d : Fin 2816 → Fin 1024 → EReal)
    (c : Fin 1024) : EReal :=
  alpha * x c + half * ∑ n ∈ Finset.range 2816, term x w d c n

/-- A sum over the first `n` units and over the next `256` is the sum over the first `n + 256`. -/
theorem sum_block (f : ℕ → EReal) (n : ℕ) (g : Fin 256 → EReal) (hg : ∀ i : Fin 256, g i = f (n + i.val)) :
    ∑ k ∈ Finset.range n, f k + ∑ i : Fin 256, g i = ∑ k ∈ Finset.range (n + 256), f k := by
  rw [Finset.sum_range_add, ← Fin.sum_univ_eq_sum_range (fun i => f (n + i))]
  exact congrArg _ (Finset.sum_congr rfl fun i _ => hg i)

/-- The sum over the units, indexed by `Fin`. -/
theorem sum_units (x : Fin 1024 → EReal) (w : Fin 1024 → Fin 5632 → EReal) (d : Fin 2816 → Fin 1024 → EReal)
    (c : Fin 1024) :
    ∑ n ∈ Finset.range 2816, term x w d c n
      = ∑ f : Fin 2816, unitTerm (∑ k, x k * w k ⟨f.val, by omega⟩) (∑ k, x k * w k ⟨2816 + f.val, by omega⟩) (d f c) := by
  rw [← Fin.sum_univ_eq_sum_range]
  exact Finset.sum_congr rfl fun f _ => by rw [term, dif_pos f.isLt]

end Cert.FfnSpec
-- ==== Proof.FfnBlock.lean ====
/-
  One block of the feed-forward kernel: what a grid point leaves in its output block is, row by row, the layer norm of the
  row's residual half-step. The eleven chunks of 256 hidden units are added one after the other; together they are the
  sum over all 2816 units.
-/
module

public import proofs.«01_k».proof.Proof.Gen.KernelIdeal.Value
public import proofs.«01_k».proof.Proof.FfnSpec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen Cert.FfnSpec

section Chunks

variable (x : FVec Ideal S512x1024 .f32) (a b : FVec Ideal S1024x256 .bf16) (d : FVec Ideal S256x1024 .bf16)
  (acc : FVec Ideal S512x1024 .f32) (r : Fin 512) (c : Fin 1024)

/-- One chunk's contribution at row `r`, column `c`: 256 hidden units from the row, the chunk's gate, up and down weights. -/
def chunk : EReal :=
  ∑ f : Fin 256, unitTerm (∑ k : Fin 1024, x (ix2 r k) * a (ix2 k f)) (∑ k : Fin 1024, x (ix2 r k) * b (ix2 k f)) (d (ix2 f c))

theorem first_chunk : k0_pay4 (F := Ideal) x a b d (ix2 r c) = chunk x a b d r c := by
  unfold chunk unitTerm
  pointwise [k0_pay4, k0_pay3, k0_pay2]

theorem chunk_b : k0_pay6 (F := Ideal) (k0_pay5 x a b d acc) (ix2 r c) = acc (ix2 r c) + chunk x a b d r c := by
  unfold chunk unitTerm
  pointwise [k0_pay6, k0_pay5, k0_pay3, k0_pay2]

theorem chunk_c : k0_pay7 (F := Ideal) (k0_pay3 x) a b d acc (ix2 r c) = acc (ix2 r c) + chunk x a b d r c := by
  unfold chunk unitTerm
  pointwise [k0_pay7, k0_pay3, k0_pay2]

theorem chunk_d : k0_pay9 (F := Ideal) (k0_pay8 (k0_pay3 x) a b d) acc (ix2 r c) = acc (ix2 r c) + chunk x a b d r c := by
  unfold chunk unitTerm
  pointwise [k0_pay9, k0_pay8, k0_pay3, k0_pay2]

theorem chunk_e : k0_pay10 (F := Ideal) (k0_pay3 x) a b d acc (ix2 r c) = acc (ix2 r c) + chunk x a b d r c := by
  unfold chunk unitTerm
  pointwise [k0_pay10, k0_pay3, k0_pay2]

theorem chunk_f : k0_pay12 (F := Ideal) (k0_pay11 (k0_pay3 x) a b) d acc (ix2 r c) = acc (ix2 r c) + chunk x a b d r c := by
  unfold chunk unitTerm
  pointwise [k0_pay12, k0_pay11, k0_pay3, k0_pay2]

theorem chunk_g : k0_pay13 (F := Ideal) (k0_pay3 x) a b d acc (ix2 r c) = acc (ix2 r c) + chunk x a b d r c := by
  unfold chunk unitTerm
  pointwise [k0_pay13, k0_pay3, k0_pay2]

theorem chunk_h : k0_pay16 (F := Ideal) (k0_pay14 (k0_pay3 x) b) (k0_pay15 (k0_pay3 x) a) d acc (ix2 r c) = acc (ix2 r c) + chunk x a b d r c := by
  unfold chunk unitTerm
  pointwise [k0_pay16, k0_pay15, k0_pay14, k0_pay3, k0_pay2]

theorem chunk_i : k0_pay17 (F := Ideal) (k0_pay3 x) a b d acc (ix2 r c) = acc (ix2 r c) + chunk x a b d r c := by
  unfold chunk unitTerm
  pointwise [k0_pay17, k0_pay3, k0_pay2]

theorem chunk_j : k0_pay20 (F := Ideal) (k0_pay3 x) (k0_pay18 (k0_pay3 x) a) (k0_pay19 b) d acc (ix2 r c) = acc (ix2 r c) + chunk x a b d r c := by
  unfold chunk unitTerm
  pointwise [k0_pay20, k0_pay19, k0_pay18, k0_pay3, k0_pay2]

theorem chunk_k : k0_pay21 (F := Ideal) (k0_pay3 x) a b d acc (ix2 r c) = acc (ix2 r c) + chunk x a b d r c := by
  unfold chunk unitTerm
  pointwise [k0_pay21, k0_pay3, k0_pay2]

end Chunks

/-- The units of the chunk that begins at unit `o`, read off the whole weight blocks. -/
theorem chunk_term (x0 : FVec Ideal S512x1024 .f32) (x1 : FVec Ideal S1024x5632 .bf16) (x2 : FVec Ideal S2816x1024 .bf16)
    (o : ℕ) (ho : o + 256 ≤ 2816) (o' : ℕ) (ho' : o' = 2816 + o)
    (i1 : ∀ a : Fin 2, (![0, o] : Fin 2 → ℕ) a + (![1024, 256] : Fin 2 → ℕ) a ≤ S1024x5632.size a)
    (i2 : ∀ a : Fin 2, (![0, o'] : Fin 2 → ℕ) a + (![1024, 256] : Fin 2 → ℕ) a ≤ S1024x5632.size a)
    (i3 : ∀ a : Fin 2, (![o, 0] : Fin 2 → ℕ) a + (![256, 1024] : Fin 2 → ℕ) a ≤ S2816x1024.size a)
    (r : Fin 512) (c : Fin 1024) (f : Fin 256) :
    unitTerm (∑ k : Fin 1024, x0 (ix2 r k) * (View.ld (Val := Elt Ideal) (S := S1024x5632) (e' := .bf16) x1 (Rect.unit ![0, o] ![1024, 256] i1) : FVec Ideal S1024x256 .bf16) (ix2 k f))
        (∑ k : Fin 1024, x0 (ix2 r k) * (View.ld (Val := Elt Ideal) (S := S1024x5632) (e' := .bf16) x1 (Rect.unit ![0, o'] ![1024, 256] i2) : FVec Ideal S1024x256 .bf16) (ix2 k f))
        ((View.ld (Val := Elt Ideal) (S := S2816x1024) (e' := .bf16) x2 (Rect.unit ![o, 0] ![256, 1024] i3) : FVec Ideal S256x1024 .bf16) (ix2 f c))
      = term (fun k => x0 (ix2 r k)) (fun k f => x1 (ix2 k f)) (fun f k => x2 (ix2 f k)) c (o + f.val) := by
  subst ho'
  rw [term, dif_pos (by omega)]
  congr 1
  · refine Finset.sum_congr rfl fun k _ => congrArg _ (congrArg x1 ?_)
    exact funext fun a => Fin.ext (by fin_cases a <;> simp [Rect.unit])
  · refine Finset.sum_congr rfl fun k _ => congrArg _ (congrArg x1 ?_)
    exact funext fun a => Fin.ext (by fin_cases a <;> simp [Rect.unit, Nat.add_assoc])
  · refine congrArg x2 ?_
    exact funext fun a => Fin.ext (by fin_cases a <;> simp [Rect.unit])

/-- The closing payload: the residual with the accumulated sum, normed. -/
theorem close_apply (x acc : FVec Ideal S512x1024 .f32) (g b : FVec Ideal S1x1024 .f32) (r : Fin 512) (c : Fin 1024) :
    k0_pay1 (F := Ideal) (k0_pay22 (k0_pay2 x)) acc g b (ix2 r c)
      = lnorm (fun k => alpha * x (ix2 r k) + half * acc (ix2 r k)) (g (ix2 0 c)) (b (ix2 0 c)) c := by
  unfold lnorm rowMean
  pointwise [k0_pay1, k0_pay22, k0_pay2]

variable (m : (ℓ : Loc nD τ sig) → Buf (Elt Ideal) ℓ)

/-- What point `t` leaves in the output block, at an index. -/
theorem point (c : Dev nD) (t : Fin cfg0.N) (x0 : FVec Ideal S512x1024 .f32) (x1 : FVec Ideal S1024x5632 .bf16)
    (x2 : FVec Ideal S2816x1024 .bf16) (x3 x4 : FVec Ideal S1x1024 .f32)
    (h0 : iblk m c 0 t = x0) (h1 : iblk m c 1 t = x1) (h2 : iblk m c 2 t = x2) (h3 : iblk m c 3 t = x3)
    (h4 : iblk m c 4 t = x4) (r : Fin 512) (l : Fin 1024) :
    outsAt0 m c t (ix2 r l)
      = lnorm (resid (fun k => x0 (ix2 r k)) (fun k f => x1 (ix2 k f)) (fun f k => x2 (ix2 f k)))
          (x3 (ix2 0 l)) (x4 (ix2 0 l)) l := by
  unfold outsAt0
  rw [h0, h1, h2, h3, h4]
  frame_open
  simp (disch := decide) only [↓ View.readCov_skip, ↓ View.readCov_cons_toLoadRect, ↓ View.readCov_fill]
  frame_out
  rw [close_apply]
  congr 1
  funext k
  unfold resid
  congr 2
  rw [chunk_k, chunk_j, chunk_i, chunk_h, chunk_g, chunk_f, chunk_e, chunk_d, chunk_c, chunk_b, first_chunk]
  unfold chunk
  refine (congrArg (· + _) ?_).trans (sum_block _ 2560 _ fun i => chunk_term x0 x1 x2 2560 (by decide) _ rfl _ _ _ r k i)
  refine (congrArg (· + _) ?_).trans (sum_block _ 2304 _ fun i => chunk_term x0 x1 x2 2304 (by decide) _ rfl _ _ _ r k i)
  refine (congrArg (· + _) ?_).trans (sum_block _ 2048 _ fun i => chunk_term x0 x1 x2 2048 (by decide) _ rfl _ _ _ r k i)
  refine (congrArg (· + _) ?_).trans (sum_block _ 1792 _ fun i => chunk_term x0 x1 x2 1792 (by decide) _ rfl _ _ _ r k i)
  refine (congrArg (· + _) ?_).trans (sum_block _ 1536 _ fun i => chunk_term x0 x1 x2 1536 (by decide) _ rfl _ _ _ r k i)
  refine (congrArg (· + _) ?_).trans (sum_block _ 1280 _ fun i => chunk_term x0 x1 x2 1280 (by decide) _ rfl _ _ _ r k i)
  refine (congrArg (· + _) ?_).trans (sum_block _ 1024 _ fun i => chunk_term x0 x1 x2 1024 (by decide) _ rfl _ _ _ r k i)
  refine (congrArg (· + _) ?_).trans (sum_block _ 768 _ fun i => chunk_term x0 x1 x2 768 (by decide) _ rfl _ _ _ r k i)
  refine (congrArg (· + _) ?_).trans (sum_block _ 512 _ fun i => chunk_term x0 x1 x2 512 (by decide) _ rfl _ _ _ r k i)
  refine (congrArg (· + _) ?_).trans (sum_block _ 256 _ fun i => chunk_term x0 x1 x2 256 (by decide) _ rfl _ _ _ r k i)
  refine (zero_add _).symm.trans ((congrArg (· + _) ?_).trans (sum_block _ 0 _ fun i => chunk_term x0 x1 x2 0 (by decide) _ rfl _ _ _ r k i))
  rfl

end Cert.KernelIdeal.Ffn
-- ==== Proof.FfnRef.lean ====
/-
  The reference of the feed-forward call read at an index: row `r` of the flattened result is the layer norm of the
  row's residual half-step.
-/
module

public import proofs.«01_k».proof.Proof.Gen.ReferenceIdeal.Read
public import proofs.«01_k».proof.Proof.FfnSpec
public import Idealize.ShloMosaic.Lib.Pointwise

@[expose] public section

set_option maxRecDepth 16384

noncomputable section

open Idealize.ShloMosaic

namespace Cert.ReferenceIdeal.Ffn

open Cert.ReferenceIdeal Cert.ReferenceIdeal.Gen Cert.ReferenceIdeal.Read Cert.FfnSpec

variable (x0 : FVec Ideal S4x8192x1024 .f32) (x1 : FVec Ideal S1024x5632 .f32) (x2 : FVec Ideal S2816x1024 .f32)
  (x3 x4 : FVec Ideal S1024 .f32)

/-- The residual row before the norm. -/
theorem resid_apply (p : Fin 4) (q : Fin 8192) (c : Fin 1024) :
    val_main_v10 (F := Ideal) x0 x1 x2 (ix3 p q c)
      = resid (fun k => x0 (ix3 p q k)) (fun k f => x1 (ix2 k f)) (fun f k => x2 (ix2 f k)) c := by
  rw [resid, sum_units]
  unfold unitTerm Ideal.logistic
  pointwise [val_main_v10, val_main_v9, val_main_v8, val_main_v7, val_main_v6, val_main_v5, val_main_v4, val_main_v3,
    val_main_v2, val_main_v1, val_main_v0, val_main_cst, val_main_cst_0, val_main_call0_v0, val_main_call0_v1,
    val_main_call0_v2, val_main_call0_v3, val_main_call0_v4, val_main_call0_v5, val_main_call0_cst,
    val_main_call0_cst_0]

/-- The mean of the residual row. -/
theorem mean_apply (p : Fin 4) (q : Fin 8192) :
    val_main_v14 (F := Ideal) x0 x1 x2 (ix3 p q 0)
      = rowMean fun c => val_main_v10 (F := Ideal) x0 x1 x2 (ix3 p q c) := by
  unfold rowMean
  pointwise [val_main_v14, val_main_v13, val_main_v12, val_main_v11, val_main_cst_1, val_main_cst_2]

/-- The whole result. -/
theorem out_apply (r : Fin 32768) (c : Fin 1024) :
    val_main_v35 (F := Ideal) x0 x1 x2 x3 x4 (ix2 r c)
      = lnorm (resid (fun k => x0 (ix3 ⟨r.val / 8192, by omega⟩ ⟨r.val % 8192, by omega⟩ k)) (fun k f => x1 (ix2 k f))
          (fun f k => x2 (ix2 f k))) (x3 (ix1 c)) (x4 (ix1 c)) c := by
  rw [show resid (fun k => x0 (ix3 ⟨r.val / 8192, by omega⟩ ⟨r.val % 8192, by omega⟩ k)) (fun k f => x1 (ix2 k f))
      (fun f k => x2 (ix2 f k))
      = fun c => val_main_v10 (F := Ideal) x0 x1 x2 (ix3 ⟨r.val / 8192, by omega⟩ ⟨r.val % 8192, by omega⟩ c)
    from funext fun c => (resid_apply x0 x1 x2 _ _ c).symm]
  rw [lnorm, ← mean_apply]
  unfold rowMean
  pointwise [val_main_v35, val_main_v34, val_main_v33, val_main_v32, val_main_v31, val_main_v30, val_main_v29, val_main_v28,
    val_main_v27, val_main_v26, val_main_v25, val_main_v24, val_main_v23, val_main_v22, val_main_v21, val_main_v20, val_main_v19,
    val_main_v18, val_main_v17, val_main_v16, val_main_v15, val_main_cst_3, val_main_cst_4, val_main_cst_5]

end Cert.ReferenceIdeal.Ffn
-- ==== Proof.FfnTie.lean ====
/-
  The feed-forward call: the kernel's result array after its run is the reference's, element by element.
-/
module

public import proofs.«01_k».proof.Proof.FfnBlock
public import proofs.«01_k».proof.Proof.FfnRef

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen Cert.FfnSpec

variable (m : (ℓ : Loc nD τ sig) → Buf (Elt Ideal) ℓ)

/-- The block index of every window at every point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ t.val < 64 :=
  (by decide +kernel : ∀ t : Fin grid0.N, _)

/-- The result array: the reference's value at the kernel's arguments. -/
abbrev ffn (c : Dev nD) : FVec Ideal S32768x1024 .f32 :=
  Cert.ReferenceIdeal.Read.val_main_v35 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

theorem read0 (c : Dev nD) (t : Fin cfg0.N) (r : Fin 512) (k : Fin 1024) (p : Fin 4) (q : Fin 8192)
    (hp : p.val = (t.val * 512 + r.val) / 8192) (hq : q.val = (t.val * 512 + r.val) % 8192) :
    (iblk m c 0 t : FVec Ideal S512x1024 .f32) (ix2 r k) = (m ((c : Thread nD τ).loc main_arg0) : FVec Ideal S4x8192x1024 .f32) (ix3 p q k) := by
  blk_ext! [iblk, V, idx t]

theorem read1 (c : Dev nD) (t : Fin cfg0.N) (k : Fin 1024) (f : Fin 5632) :
    (iblk m c 1 t : FVec Ideal S1024x5632 .bf16) (ix2 k f) = (m ((c : Thread nD τ).loc main_arg1) : FVec Ideal S1024x5632 .f32) (ix2 k f) := by
  blk_ext! [iblk, V, idx t]

theorem read2 (c : Dev nD) (t : Fin cfg0.N) (f : Fin 2816) (k : Fin 1024) :
    (iblk m c 2 t : FVec Ideal S2816x1024 .bf16) (ix2 f k) = (m ((c : Thread nD τ).loc main_arg2) : FVec Ideal S2816x1024 .f32) (ix2 f k) := by
  blk_ext! [iblk, V, idx t]

theorem read3 (c : Dev nD) (t : Fin cfg0.N) (k : Fin 1024) :
    (iblk m c 3 t : FVec Ideal S1x1024 .f32) (ix2 0 k) = (m ((c : Thread nD τ).loc main_arg3) : FVec Ideal S1024 .f32) (ix1 k) := by
  blk_ext! [iblk, V, idx t]

theorem read4 (c : Dev nD) (t : Fin cfg0.N) (k : Fin 1024) :
    (iblk m c 4 t : FVec Ideal S1x1024 .f32) (ix2 0 k) = (m ((c : Thread nD τ).loc main_arg4) : FVec Ideal S1024 .f32) (ix1 k) := by
  blk_ext! [iblk, V, idx t]

theorem final (c : Dev nD) : (dats m 0 c).arrAt 5 (cfgs 0).N = ffn m c := by
  refine (dats m 0 c).arrAt_eq_of_covers 5 _ (by decide +kernel) fun t _ y => ?_
  blk_simp
  rw [after0_5]
  idx_vars y
  refine (point m c t _ _ _ _ _ rfl rfl rfl rfl rfl y0 y1).trans ?_
  have ht : t.val < 64 := (idx t).2.2.2.2.2.2
  have e : ((View.whole main_v5).slice (win0_5.rect t)).emb (ix2 y0 y1)
      = (ix2 ⟨t.val * 512 + y0.val, by omega⟩ y1 : S32768x1024.Idx) := by
    blk_ext [idx t]
  rw [e]
  refine Eq.trans ?_ (Cert.ReferenceIdeal.Ffn.out_apply _ _ _ _ _ _ _).symm
  rw [read3, read4]
  congr 1
  congr 1
  · funext k; exact read0 m c t y0 k _ _ rfl rfl
  · funext k f; exact read1 m c t k f
  · funext f k; exact read2 m c t f k

end Cert.KernelIdeal.Ffn
-- ==== Proof.FfnClaims.lean ====
/-
  The claims about the feed-forward call, assembled: the three frames and the value claim.
-/
module

public import proofs.«01_k».proof.Defs
public import proofs.«01_k».proof.Proof.Gen.Kernel.Frame
public import proofs.«01_k».proof.Proof.FfnTie

@[expose] public section

set_option maxRecDepth 16384

noncomputable section

open Idealize.ShloMosaic Idealize.ShloMosaic.TcCoe Idealize.SL.Sem

namespace Cert.FfnClaims

theorem frame_reference : Cert.quiescent_ReferenceIdeal (hReferenceIdeal := Cert.ReferenceIdeal.Gen.facts) :=
  fun m g _ => (θ_run _ _ _).mono (fun r h => ⟨fun c => (h c).2, funext fun x => by nomatch x⟩) (Cert.ReferenceIdeal.Value.run m g)

theorem value : Cert.algebraic_KernelIdeal_ReferenceIdeal (hKernelIdeal := Cert.KernelIdeal.Gen.facts)
    (hReferenceIdeal := Cert.ReferenceIdeal.Gen.facts) :=
  fun m g m' g' _ hag => ⟨fun c => Cert.KernelIdeal.Ffn.ffn m c,
    (θ_run _ _ _).mono (fun _ h c => ⟨(h c).1.trans (Cert.KernelIdeal.Ffn.final m c), (h c).2⟩)
      (Cert.KernelIdeal.Value.run_blocks m g),
    (θ_run _ _ _).mono (fun _ h c => ⟨(h c).1.trans (by
        obtain ⟨h0, h1, h2, h3, h4⟩ := hag c
        rw [Cert.ReferenceIdeal.Read.val_main_v35_eq, h0, h1, h2, h3, h4]), (h c).2⟩)
      (Cert.ReferenceIdeal.Value.run m' g')⟩

end Cert.FfnClaims

end
-- ==== Proof.SguSpec.lean ====
/-
  The spatial gating unit, as plain functions on the extended reals.
-/
module

public import proofs.«01_k».proof.Proof.FfnSpec

@[expose] public section

set_option maxRecDepth 16384

noncomputable section

open Idealize.ShloMosaic Idealize.ShloMosaic.TcCoe Idealize.SL.Sem
open Idealize.ShloMosaic.Pipeline (Dat)

namespace Cert.SguSpec

/-- One entry: the gate times the causal mix of its chunk's column, with a bias. -/
def gated (i : Fin 128) (u b : EReal) (w v : Fin 128 → EReal) : EReal :=
  u * (∑ k, (if k.val ≤ i.val then w k else 0) * v k + b)

end Cert.SguSpec
-- ==== Proof.WordSpec.lean ====
/-
  Choices by word comparisons of small numbers, as choices by the comparisons of the numbers.
-/
module

public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.WordSpec

variable {α : Type} (x y : α)

theorem pick_slt {a b : ℕ} (ha : a < 2 ^ 31) (hb : b < 2 ^ 31) :
    Scalar.select (IntOp.cmpi .slt (BitVec.ofNat 32 a) (BitVec.ofNat 32 b)) x y = if a < b then x else y := by
  by_cases h : a < b
  · rw [(WordCmp.cmpi_slt_ofNat_eq_one_iff (w := 32) ha hb).2 h, ValueIdx.select_one, if_pos h]
  · rw [(WordCmp.cmpi_slt_ofNat_eq_zero_iff (w := 32) ha hb).2 (by omega), ValueIdx.select_zero, if_neg h]

theorem pick_sle {a b : ℕ} (ha : a < 2 ^ 31) (hb : b < 2 ^ 31) :
    Scalar.select (IntOp.cmpi .sle (BitVec.ofNat 32 a) (BitVec.ofNat 32 b)) x y = if a ≤ b then x else y := by
  by_cases h : a ≤ b
  · rw [(WordCmp.cmpi_sle_ofNat_eq_one_iff (w := 32) ha hb).2 h, ValueIdx.select_one, if_pos h]
  · rw [(WordCmp.cmpi_sle_ofNat_eq_zero_iff (w := 32) ha hb).2 (by omega), ValueIdx.select_zero, if_neg h]

theorem pick_sge {a b : ℕ} (ha : a < 2 ^ 31) (hb : b < 2 ^ 31) :
    Scalar.select (IntOp.cmpi .sge (BitVec.ofNat 32 a) (BitVec.ofNat 32 b)) x y = if a ≥ b then x else y := by
  by_cases h : a ≥ b
  · rw [(WordCmp.cmpi_sge_ofNat_eq_one_iff (w := 32) ha hb).2 h, ValueIdx.select_one, if_pos h]
  · rw [(WordCmp.cmpi_sge_ofNat_eq_zero_iff (w := 32) ha hb).2 (by omega), ValueIdx.select_zero, if_neg h]

theorem pick_eq {a b : ℕ} (ha : a < 2 ^ 32) (hb : b < 2 ^ 32) :
    Scalar.select (IntOp.cmpi .eq (BitVec.ofNat 32 a) (BitVec.ofNat 32 b)) x y = if a = b then x else y := by
  by_cases h : a = b
  · rw [(WordCmp.cmpi_eq_ofNat_eq_one_iff (w := 32) ha hb).2 h, ValueIdx.select_one, if_pos h]
  · rw [(WordCmp.cmpi_eq_ofNat_eq_zero_iff (w := 32) ha hb).2 (by omega), ValueIdx.select_zero, if_neg h]

/-- A choice on a choice between the two truth words is the inner choice. -/
theorem pick_pick (c : BitVec 1) : Scalar.select (Scalar.select c (1#1) (0#1)) x y = Scalar.select c x y := by
  rcases (show c = 0#1 ∨ c = 1#1 by revert c; decide) with rfl | rfl <;> simp [ValueIdx.select_one, ValueIdx.select_zero]

end Cert.WordSpec
-- ==== Proof.SguBlock.lean ====
/-
  One block of the spatial gating unit: every tile is the gate times the causal mix of its chunk.
-/
module

public import proofs.«01_k».proof.Proof.Gen.SguKernelIdeal.Value
public import proofs.«01_k».proof.Proof.SguSpec
public import proofs.«01_k».proof.Proof.WordSpec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SguKernelIdeal.Sgu

open Cert.SguKernelIdeal Cert.SguKernelIdeal.Gen Cert.SguSpec Cert.WordSpec

/-- One tile's payload, at an index: the two masked halves make one causal sum. -/
theorem piece_apply (v6 v11 : FVec Ideal S1x128x128 .f32) (v16 : FVec Ideal S128x128 .f32)
    (v18 v26 : FVec Ideal S1x128x128 .bf16) (i l : Fin 128) :
    k0_pay8 (F := Ideal) v6 v11 v16 v18 v26 (ix3 0 i l)
      = gated i (v26 (ix3 0 i l)) (v16 (ix2 i l)) (fun k => if l.val < 64 then v6 (ix3 0 i k) else v11 (ix3 0 i k))
          (fun k => v18 (ix3 0 k l)) := by
  unfold gated
  pointwise [k0_pay8, k0_pay7, k0_pay6, k0_pay5, k0_pay4, k0_pay3]
  congr 1
  congr 1
  simp (disch := omega) only [pick_slt, pick_sle]
  by_cases hl : l.val < 64
  · simp only [hl, if_true, Finset.sum_const_zero, add_zero]
    exact Finset.sum_congr rfl fun k _ => by split_ifs <;> simp
  · simp only [hl, if_false, Finset.sum_const_zero, zero_add]
    exact Finset.sum_congr rfl fun k _ => by split_ifs <;> simp

/-- A load reads the block at the rectangle's own index. -/
theorem ld_eq {S : Shape} {e : EltTy} (x : Vec Ideal S e) (r : Rect S) (i : r.shape.Idx) (j : S.Idx)
    (h : ∀ a, (r.idx i a).val = (j a).val) : View.ld (Val := Elt Ideal) (S := S) (e' := e) x r i = x j :=
  congrArg x (funext fun a => Fin.ext (h a))

/-- What the block holds at an index. -/
def goal (x0 x1 : FVec Ideal S1x512x512 .bf16) (x2 : FVec Ideal S8x128x128 .f32) (x3 : FVec Ideal S128x512 .f32)
    (r l : Fin 512) : EReal :=
  gated ⟨r.val % 128, by omega⟩ (x0 (ix3 0 r l)) (x3 (ix2 ⟨r.val % 128, by omega⟩ l))
    (fun k => x2 (ix3 ⟨l.val / 64, by omega⟩ ⟨r.val % 128, by omega⟩ k))
    (fun k => x1 (ix3 0 ⟨r.val / 128 * 128 + k.val, by omega⟩ l))

/-- A tile stored at chunk `c` and lane pair `p`. -/
theorem tile (x0 x1 : FVec Ideal S1x512x512 .bf16) (x2 : FVec Ideal S8x128x128 .f32) (x3 : FVec Ideal S128x512 .f32)
    (c p : Fin 4) (v6 v11 : FVec Ideal S1x128x128 .f32) (v16 : FVec Ideal S128x128 .f32)
    (v18 v26 : FVec Ideal S1x128x128 .bf16) (z : S1x128x128.Idx) (r l : Fin 512)
    (h1 : r.val = 128 * c.val + (z 1).val) (h2 : l.val = 128 * p.val + (z 2).val)
    (e6 : ∀ i k, v6 (ix3 0 i k) = x2 (ix3 ⟨2 * p.val, by omega⟩ i k))
    (e11 : ∀ i k, v11 (ix3 0 i k) = x2 (ix3 ⟨2 * p.val + 1, by omega⟩ i k))
    (e16 : ∀ i k, v16 (ix2 i k) = x3 (ix2 i ⟨128 * p.val + k.val, by omega⟩))
    (e18 : ∀ i k, v18 (ix3 0 i k) = x1 (ix3 0 ⟨128 * c.val + i.val, by omega⟩ ⟨128 * p.val + k.val, by omega⟩))
    (e26 : ∀ i k, v26 (ix3 0 i k) = x0 (ix3 0 ⟨128 * c.val + i.val, by omega⟩ ⟨128 * p.val + k.val, by omega⟩)) :
    k0_pay8 (F := Ideal) v6 v11 v16 v18 v26 z = goal x0 x1 x2 x3 r l := by
  obtain ⟨i, j, rfl⟩ : ∃ i j : Fin 128, z = ix3 0 i j := ⟨z 1, z 2, by blk_ext⟩
  replace h1 : r.val = 128 * c.val + i.val := h1
  replace h2 : l.val = 128 * p.val + j.val := h2
  rw [piece_apply, goal]
  have h3 : 128 * c.val + i.val < 512 := by omega
  have h4 : 128 * p.val + j.val < 512 := by omega
  obtain rfl : r = ⟨128 * c.val + i.val, h3⟩ := Fin.ext h1
  obtain rfl : l = ⟨128 * p.val + j.val, h4⟩ := Fin.ext h2
  rw [show (⟨(128 * c.val + i.val) % 128, by omega⟩ : Fin 128) = i from Fin.ext (by simp only; omega)]
  congr 1
  · exact e26 i j
  · exact e16 i j
  · funext k
    split_ifs with hj
    · rw [e6]
      exact congrArg x2 (congrArg (fun a => ix3 a i k) (Fin.ext (by simp only; omega)))
    · rw [e11]
      exact congrArg x2 (congrArg (fun a => ix3 a i k) (Fin.ext (by simp only; omega)))
  · funext k
    rw [e18]
    exact congrArg x1 (congrArg (fun a => ix3 0 a _) (Fin.ext (by simp only; omega)))

theorem point (x0 x1 : FVec Ideal S1x512x512 .bf16) (x2 : FVec Ideal S8x128x128 .f32) (x3 : FVec Ideal S128x512 .f32)
    (r l : Fin 512) : out0_4 (F := Ideal) x0 x1 x2 x3 (ix3 0 r l) = goal x0 x1 x2 x3 r l := by
  unfold_out out0_4
  canon_tiles z h
  · exact tile x0 x1 x2 x3 3 3 (View.ld (Val := Elt Ideal) (S := S8x128x128) (e' := .f32) x2 r0_21) (View.ld (Val := Elt Ideal) (S := S8x128x128) (e' := .f32) x2 r0_22) (View.ld (Val := Elt Ideal) (S := S128x512) (e' := .f32) x3 r0_23) (View.ld (Val := Elt Ideal) (S := S1x512x512) (e' := .bf16) x1 r0_27) (View.ld (Val := Elt Ideal) (S := S1x512x512) (e' := .bf16) x0 r0_27) z r l
      (by simpa using h1) (by simpa using h2) (fun i k => ld_eq _ _ _ _ (by intro a; fin_cases a <;> simp [Rect.unit])) (fun i k => ld_eq _ _ _ _ (by intro a; fin_cases a <;> simp [Rect.unit]))
      (fun i k => ld_eq _ _ _ _ (by intro a; fin_cases a <;> simp [Rect.unit])) (fun i k => ld_eq _ _ _ _ (by intro a; fin_cases a <;> simp [Rect.unit])) (fun i k => ld_eq _ _ _ _ (by intro a; fin_cases a <;> simp [Rect.unit]))
  · exact tile x0 x1 x2 x3 2 3 (View.ld (Val := Elt Ideal) (S := S8x128x128) (e' := .f32) x2 r0_21) (View.ld (Val := Elt Ideal) (S := S8x128x128) (e' := .f32) x2 r0_22) (View.ld (Val := Elt Ideal) (S := S128x512) (e' := .f32) x3 r0_23) (View.ld (Val := Elt Ideal) (S := S1x512x512) (e' := .bf16) x1 r0_26) (View.ld (Val := Elt Ideal) (S := S1x512x512) (e' := .bf16) x0 r0_26) z r l
      (by simpa using h1) (by simpa using h2) (fun i k => ld_eq _ _ _ _ (by intro a; fin_cases a <;> simp [Rect.unit])) (fun i k => ld_eq _ _ _ _ (by intro a; fin_cases a <;> simp [Rect.unit]))
      (fun i k => ld_eq _ _ _ _ (by intro a; fin_cases a <;> simp [Rect.unit])) (fun i k => ld_eq _ _ _ _ (by intro a; fin_cases a <;> simp [Rect.unit])) (fun i k => ld_eq _ _ _ _ (by intro a; fin_cases a <;> simp [Rect.unit]))
  · exact tile x0 x1 x2 x3 1 3 (View.ld (Val := Elt Ideal) (S := S8x128x128) (e' := .f32) x2 r0_21) (View.ld (Val := Elt Ideal) (S := S8x128x128) (e' := .f32) x2 r0_22) (View.ld (Val := Elt Ideal) (S := S128x512) (e' := .f32) x3 r0_23) (View.ld (Val := Elt Ideal) (S := S1x512x512) (e' := .bf16) x1 r0_25) (View.ld (Val := Elt Ideal) (S := S1x512x512) (e' := .bf16) x0 r0_25) z r l
      (by simpa using h1) (by simpa using h2) (fun i k => ld_eq _ _ _ _ (by intro a; fin_cases a <;> simp [Rect.unit])) (fun i k => ld_eq _ _ _ _ (by intro a; fin_cases a <;> simp [Rect.unit]))
      (fun i k => ld_eq _ _ _ _ (by intro a; fin_cases a <;> simp [Rect.unit])) (fun i k => ld_eq _ _ _ _ (by intro a; fin_cases a <;> simp [Rect.unit])) (fun i k => ld_eq _ _ _ _ (by intro a; fin_cases a <;> simp [Rect.unit]))
  · exact tile x0 x1 x2 x3 0 3 (View.ld (Val := Elt Ideal) (S := S8x128x128) (e' := .f32) x2 r0_21) (View.ld (Val := Elt Ideal) (S := S8x128x128) (e' := .f32) x2 r0_22) (View.ld (Val := Elt Ideal) (S := S128x512) (e' := .f32) x3 r0_23) (View.ld (Val := Elt Ideal) (S := S1x512x512) (e' := .bf16) x1 r0_24) (View.ld (Val := Elt Ideal) (S := S1x512x512) (e' := .bf16) x0 r0_24) z r l
      (by simpa using h1) (by simpa using h2) (fun i k => ld_eq _ _ _ _ (by intro a; fin_cases a <;> simp [Rect.unit])) (fun i k => ld_eq _ _ _ _ (by intro a; fin_cases a <;> simp [Rect.unit]))
      (fun i k => ld_eq _ _ _ _ (by intro a; fin_cases a <;> simp [Rect.unit])) (fun i k => ld_eq _ _ _ _ (by intro a; fin_cases a <;> simp [Rect.unit])) (fun i k => ld_eq _ _ _ _ (by intro a; fin_cases a <;> simp [Rect.unit]))
  · exact tile x0 x1 x2 x3 3 2 (View.ld (Val := Elt Ideal) (S := S8x128x128) (e' := .f32) x2 r0_14) (View.ld (Val := Elt Ideal) (S := S8x128x128) (e' := .f32) x2 r0_15) (View.ld (Val := Elt Ideal) (S := S128x512) (e' := .f32) x3 r0_16) (View.ld (Val := Elt Ideal) (S := S1x512x512) (e' := .bf16) x1 r0_20) (View.ld (Val := Elt Ideal) (S := S1x512x512) (e' := .bf16) x0 r0_20) z r l
      (by simpa using h1) (by simpa using h2) (fun i k => ld_eq _ _ _ _ (by intro a; fin_cases a <;> simp [Rect.unit])) (fun i k => ld_eq _ _ _ _ (by intro a; fin_cases a <;> simp [Rect.unit]))
      (fun i k => ld_eq _ _ _ _ (by intro a; fin_cases a <;> simp [Rect.unit])) (fun i k => ld_eq _ _ _ _ (by intro a; fin_cases a <;> simp [Rect.unit])) (fun i k => ld_eq _ _ _ _ (by intro a; fin_cases a <;> simp [Rect.unit]))
  · exact tile x0 x1 x2 x3 2 2 (View.ld (Val := Elt Ideal) (S := S8x128x128) (e' := .f32) x2 r0_14) (View.ld (Val := Elt Ideal) (S := S8x128x128) (e' := .f32) x2 r0_15) (View.ld (Val := Elt Ideal) (S := S128x512) (e' := .f32) x3 r0_16) (View.ld (Val := Elt Ideal) (S := S1x512x512) (e' := .bf16) x1 r0_19) (View.ld (Val := Elt Ideal) (S := S1x512x512) (e' := .bf16) x0 r0_19) z r l
      (by simpa using h1) (by simpa using h2) (fun i k => ld_eq _ _ _ _ (by intro a; fin_cases a <;> simp [Rect.unit])) (fun i k => ld_eq _ _ _ _ (by intro a; fin_cases a <;> simp [Rect.unit]))
      (fun i k => ld_eq _ _ _ _ (by intro a; fin_cases a <;> simp [Rect.unit])) (fun i k => ld_eq _ _ _ _ (by intro a; fin_cases a <;> simp [Rect.unit])) (fun i k => ld_eq _ _ _ _ (by intro a; fin_cases a <;> simp [Rect.unit]))
  · exact tile x0 x1 x2 x3 1 2 (View.ld (Val := Elt Ideal) (S := S8x128x128) (e' := .f32) x2 r0_14) (View.ld (Val := Elt Ideal) (S := S8x128x128) (e' := .f32) x2 r0_15) (View.ld (Val := Elt Ideal) (S := S128x512) (e' := .f32) x3 r0_16) (View.ld (Val := Elt Ideal) (S := S1x512x512) (e' := .bf16) x1 r0_18) (View.ld (Val := Elt Ideal) (S := S1x512x512) (e' := .bf16) x0 r0_18) z r l
      (by simpa using h1) (by simpa using h2) (fun i k => ld_eq _ _ _ _ (by intro a; fin_cases a <;> simp [Rect.unit])) (fun i k => ld_eq _ _ _ _ (by intro a; fin_cases a <;> simp [Rect.unit]))
      (fun i k => ld_eq _ _ _ _ (by intro a; fin_cases a <;> simp [Rect.unit])) (fun i k => ld_eq _ _ _ _ (by intro a; fin_cases a <;> simp [Rect.unit])) (fun i k => ld_eq _ _ _ _ (by intro a; fin_cases a <;> simp [Rect.unit]))
  · exact tile x0 x1 x2 x3 0 2 (View.ld (Val := Elt Ideal) (S := S8x128x128) (e' := .f32) x2 r0_14) (View.ld (Val := Elt Ideal) (S := S8x128x128) (e' := .f32) x2 r0_15) (View.ld (Val := Elt Ideal) (S := S128x512) (e' := .f32) x3 r0_16) (View.ld (Val := Elt Ideal) (S := S1x512x512) (e' := .bf16) x1 r0_17) (View.ld (Val := Elt Ideal) (S := S1x512x512) (e' := .bf16) x0 r0_17) z r l
      (by simpa using h1) (by simpa using h2) (fun i k => ld_eq _ _ _ _ (by intro a; fin_cases a <;> simp [Rect.unit])) (fun i k => ld_eq _ _ _ _ (by intro a; fin_cases a <;> simp [Rect.unit]))
      (fun i k => ld_eq _ _ _ _ (by intro a; fin_cases a <;> simp [Rect.unit])) (fun i k => ld_eq _ _ _ _ (by intro a; fin_cases a <;> simp [Rect.unit])) (fun i k => ld_eq _ _ _ _ (by intro a; fin_cases a <;> simp [Rect.unit]))
  · exact tile x0 x1 x2 x3 3 1 (View.ld (Val := Elt Ideal) (S := S8x128x128) (e' := .f32) x2 r0_7) (View.ld (Val := Elt Ideal) (S := S8x128x128) (e' := .f32) x2 r0_8) (View.ld (Val := Elt Ideal) (S := S128x512) (e' := .f32) x3 r0_9) (View.ld (Val := Elt Ideal) (S := S1x512x512) (e' := .bf16) x1 r0_13) (View.ld (Val := Elt Ideal) (S := S1x512x512) (e' := .bf16) x0 r0_13) z r l
      (by simpa using h1) (by simpa using h2) (fun i k => ld_eq _ _ _ _ (by intro a; fin_cases a <;> simp [Rect.unit])) (fun i k => ld_eq _ _ _ _ (by intro a; fin_cases a <;> simp [Rect.unit]))
      (fun i k => ld_eq _ _ _ _ (by intro a; fin_cases a <;> simp [Rect.unit])) (fun i k => ld_eq _ _ _ _ (by intro a; fin_cases a <;> simp [Rect.unit])) (fun i k => ld_eq _ _ _ _ (by intro a; fin_cases a <;> simp [Rect.unit]))
  · exact tile x0 x1 x2 x3 2 1 (View.ld (Val := Elt Ideal) (S := S8x128x128) (e' := .f32) x2 r0_7) (View.ld (Val := Elt Ideal) (S := S8x128x128) (e' := .f32) x2 r0_8) (View.ld (Val := Elt Ideal) (S := S128x512) (e' := .f32) x3 r0_9) (View.ld (Val := Elt Ideal) (S := S1x512x512) (e' := .bf16) x1 r0_12) (View.ld (Val := Elt Ideal) (S := S1x512x512) (e' := .bf16) x0 r0_12) z r l
      (by simpa using h1) (by simpa using h2) (fun i k => ld_eq _ _ _ _ (by intro a; fin_cases a <;> simp [Rect.unit])) (fun i k => ld_eq _ _ _ _ (by intro a; fin_cases a <;> simp [Rect.unit]))
      (fun i k => ld_eq _ _ _ _ (by intro a; fin_cases a <;> simp [Rect.unit])) (fun i k => ld_eq _ _ _ _ (by intro a; fin_cases a <;> simp [Rect.unit])) (fun i k => ld_eq _ _ _ _ (by intro a; fin_cases a <;> simp [Rect.unit]))
  · exact tile x0 x1 x2 x3 1 1 (View.ld (Val := Elt Ideal) (S := S8x128x128) (e' := .f32) x2 r0_7) (View.ld (Val := Elt Ideal) (S := S8x128x128) (e' := .f32) x2 r0_8) (View.ld (Val := Elt Ideal) (S := S128x512) (e' := .f32) x3 r0_9) (View.ld (Val := Elt Ideal) (S := S1x512x512) (e' := .bf16) x1 r0_11) (View.ld (Val := Elt Ideal) (S := S1x512x512) (e' := .bf16) x0 r0_11) z r l
      (by simpa using h1) (by simpa using h2) (fun i k => ld_eq _ _ _ _ (by intro a; fin_cases a <;> simp [Rect.unit])) (fun i k => ld_eq _ _ _ _ (by intro a; fin_cases a <;> simp [Rect.unit]))
      (fun i k => ld_eq _ _ _ _ (by intro a; fin_cases a <;> simp [Rect.unit])) (fun i k => ld_eq _ _ _ _ (by intro a; fin_cases a <;> simp [Rect.unit])) (fun i k => ld_eq _ _ _ _ (by intro a; fin_cases a <;> simp [Rect.unit]))
  · exact tile x0 x1 x2 x3 0 1 (View.ld (Val := Elt Ideal) (S := S8x128x128) (e' := .f32) x2 r0_7) (View.ld (Val := Elt Ideal) (S := S8x128x128) (e' := .f32) x2 r0_8) (View.ld (Val := Elt Ideal) (S := S128x512) (e' := .f32) x3 r0_9) (View.ld (Val := Elt Ideal) (S := S1x512x512) (e' := .bf16) x1 r0_10) (View.ld (Val := Elt Ideal) (S := S1x512x512) (e' := .bf16) x0 r0_10) z r l
      (by simpa using h1) (by simpa using h2) (fun i k => ld_eq _ _ _ _ (by intro a; fin_cases a <;> simp [Rect.unit])) (fun i k => ld_eq _ _ _ _ (by intro a; fin_cases a <;> simp [Rect.unit]))
      (fun i k => ld_eq _ _ _ _ (by intro a; fin_cases a <;> simp [Rect.unit])) (fun i k => ld_eq _ _ _ _ (by intro a; fin_cases a <;> simp [Rect.unit])) (fun i k => ld_eq _ _ _ _ (by intro a; fin_cases a <;> simp [Rect.unit]))
  · exact tile x0 x1 x2 x3 3 0 (View.ld (Val := Elt Ideal) (S := S8x128x128) (e' := .f32) x2 r0_0) (View.ld (Val := Elt Ideal) (S := S8x128x128) (e' := .f32) x2 r0_1) (View.ld (Val := Elt Ideal) (S := S128x512) (e' := .f32) x3 r0_2) (View.ld (Val := Elt Ideal) (S := S1x512x512) (e' := .bf16) x1 r0_6) (View.ld (Val := Elt Ideal) (S := S1x512x512) (e' := .bf16) x0 r0_6) z r l
      (by simpa using h1) (by simpa using h2) (fun i k => ld_eq _ _ _ _ (by intro a; fin_cases a <;> simp [Rect.unit])) (fun i k => ld_eq _ _ _ _ (by intro a; fin_cases a <;> simp [Rect.unit]))
      (fun i k => ld_eq _ _ _ _ (by intro a; fin_cases a <;> simp [Rect.unit])) (fun i k => ld_eq _ _ _ _ (by intro a; fin_cases a <;> simp [Rect.unit])) (fun i k => ld_eq _ _ _ _ (by intro a; fin_cases a <;> simp [Rect.unit]))
  · exact tile x0 x1 x2 x3 2 0 (View.ld (Val := Elt Ideal) (S := S8x128x128) (e' := .f32) x2 r0_0) (View.ld (Val := Elt Ideal) (S := S8x128x128) (e' := .f32) x2 r0_1) (View.ld (Val := Elt Ideal) (S := S128x512) (e' := .f32) x3 r0_2) (View.ld (Val := Elt Ideal) (S := S1x512x512) (e' := .bf16) x1 r0_5) (View.ld (Val := Elt Ideal) (S := S1x512x512) (e' := .bf16) x0 r0_5) z r l
      (by simpa using h1) (by simpa using h2) (fun i k => ld_eq _ _ _ _ (by intro a; fin_cases a <;> simp [Rect.unit])) (fun i k => ld_eq _ _ _ _ (by intro a; fin_cases a <;> simp [Rect.unit]))
      (fun i k => ld_eq _ _ _ _ (by intro a; fin_cases a <;> simp [Rect.unit])) (fun i k => ld_eq _ _ _ _ (by intro a; fin_cases a <;> simp [Rect.unit])) (fun i k => ld_eq _ _ _ _ (by intro a; fin_cases a <;> simp [Rect.unit]))
  · exact tile x0 x1 x2 x3 1 0 (View.ld (Val := Elt Ideal) (S := S8x128x128) (e' := .f32) x2 r0_0) (View.ld (Val := Elt Ideal) (S := S8x128x128) (e' := .f32) x2 r0_1) (View.ld (Val := Elt Ideal) (S := S128x512) (e' := .f32) x3 r0_2) (View.ld (Val := Elt Ideal) (S := S1x512x512) (e' := .bf16) x1 r0_4) (View.ld (Val := Elt Ideal) (S := S1x512x512) (e' := .bf16) x0 r0_4) z r l
      (by simpa using h1) (by simpa using h2) (fun i k => ld_eq _ _ _ _ (by intro a; fin_cases a <;> simp [Rect.unit])) (fun i k => ld_eq _ _ _ _ (by intro a; fin_cases a <;> simp [Rect.unit]))
      (fun i k => ld_eq _ _ _ _ (by intro a; fin_cases a <;> simp [Rect.unit])) (fun i k => ld_eq _ _ _ _ (by intro a; fin_cases a <;> simp [Rect.unit])) (fun i k => ld_eq _ _ _ _ (by intro a; fin_cases a <;> simp [Rect.unit]))
  · exact tile x0 x1 x2 x3 0 0 (View.ld (Val := Elt Ideal) (S := S8x128x128) (e' := .f32) x2 r0_0) (View.ld (Val := Elt Ideal) (S := S8x128x128) (e' := .f32) x2 r0_1) (View.ld (Val := Elt Ideal) (S := S128x512) (e' := .f32) x3 r0_2) (View.ld (Val := Elt Ideal) (S := S1x512x512) (e' := .bf16) x1 r0_3) (View.ld (Val := Elt Ideal) (S := S1x512x512) (e' := .bf16) x0 r0_3) z r l
      (by simpa using h1) (by simpa using h2) (fun i k => ld_eq _ _ _ _ (by intro a; fin_cases a <;> simp [Rect.unit])) (fun i k => ld_eq _ _ _ _ (by intro a; fin_cases a <;> simp [Rect.unit]))
      (fun i k => ld_eq _ _ _ _ (by intro a; fin_cases a <;> simp [Rect.unit])) (fun i k => ld_eq _ _ _ _ (by intro a; fin_cases a <;> simp [Rect.unit])) (fun i k => ld_eq _ _ _ _ (by intro a; fin_cases a <;> simp [Rect.unit]))

end Cert.SguKernelIdeal.Sgu
-- ==== Proof.SguRef.lean ====
/-
  The reference of the spatial gating unit read at an index.
-/
module

public import proofs.«01_k».proof.Proof.Gen.SguReferenceIdeal.Read
public import proofs.«01_k».proof.Proof.SguSpec
public import proofs.«01_k».proof.Proof.WordSpec
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SguReferenceIdeal.Sgu

open Cert.SguReferenceIdeal Cert.SguReferenceIdeal.Gen Cert.SguReferenceIdeal.Read Cert.SguSpec Cert.WordSpec

theorem out_apply (x0 x1 : FVec Ideal S4x8192x512 .bf16) (x2 : FVec Ideal S8x128x128 .f32) (x3 : FVec Ideal S8x128 .f32)
    (b : Fin 4) (s : Fin 8192) (l : Fin 512) :
    val_main_v15 (F := Ideal) x0 x1 x2 x3 (ix3 b s l)
      = gated ⟨s.val % 128, by omega⟩ (x0 (ix3 b s l)) (x3 (ix2 ⟨l.val / 64, by omega⟩ ⟨s.val % 128, by omega⟩))
          (fun k => x2 (ix3 ⟨l.val / 64, by omega⟩ ⟨s.val % 128, by omega⟩ k))
          (fun k => x1 (ix3 b ⟨s.val / 128 * 128 + k.val, by omega⟩ l)) := by
  unfold gated
  pointwise [val_main_v15, val_main_v14, val_main_v13, val_main_v12, val_main_v11, val_main_v10, val_main_v9,
    val_main_v8, val_main_v7, val_main_v6, val_main_v5, val_main_v4, val_main_call1_v0, val_main_v3,
    val_main_cst, val_main_v2, val_main_call0_v5, val_main_call0_c_0, val_main_call0_v4, val_main_call0_v3,
    val_main_call0_v2, val_main_call0_v1, val_main_call0_c, val_main_call0_v0, val_main_v1, val_main_c,
    val_main_v0]
  simp (disch := omega) only [pick_pick, IntOp.addi, BitVec.add_zero, pick_sge]
  refine congrArg (fun z => x0 (ix3 b s l) * (z + _)) (Finset.sum_congr rfl fun k _ => ?_)
  by_cases hk : k.val ≤ s.val % 128
  · rw [if_pos hk, if_pos hk, ValueIdx.select_one, mul_comm]
  · rw [if_neg hk, if_neg hk, ValueIdx.select_zero, zero_mul]

end Cert.SguReferenceIdeal.Sgu
-- ==== Proof.SguTie.lean ====
/-
  The spatial gating unit: the kernel's result array after its run is the reference's, element by element.
-/
module

public import proofs.«01_k».proof.Proof.SguBlock
public import proofs.«01_k».proof.Proof.SguRef

@[expose] public section

set_option maxRecDepth 16384

noncomputable section

open Idealize.ShloMosaic Idealize.ShloMosaic.TcCoe Idealize.SL.Sem
open Idealize.ShloMosaic.Pipeline (Dat)

namespace Cert.SguKernelIdeal.Sgu

open Cert.SguKernelIdeal Cert.SguKernelIdeal.Gen Cert.SguSpec

variable (m : (ℓ : Loc nD τ sig) → Buf (Elt Ideal) ℓ)

/-- The block index of every window at every point. -/
theorem idx : ∀ t : Fin cfg0.N, win0_0.index t = ![t.val / 16, t.val % 16, 0] ∧ win0_1.index t = ![t.val / 16, t.val % 16, 0]
    ∧ win0_2.index t = ![0, 0, 0] ∧ win0_3.index t = ![0, 0] ∧ win0_4.index t = ![t.val / 16, t.val % 16, 0] ∧ t.val < 64 :=
  (by decide +kernel : ∀ t : Fin grid0.N, _)

/-- The result array: the reference's value at the kernel's arguments. -/
abbrev result (c : Dev nD) : FVec Ideal S4x8192x512 .bf16 :=
  Cert.SguReferenceIdeal.Read.val_main_v15 (F := Ideal) (m ((c : Thread nD τ).loc main_arg0)) (m ((c : Thread nD τ).loc main_arg1)) (m ((c : Thread nD τ).loc main_arg2)) (m ((c : Thread nD τ).loc main_arg3))

theorem read0 (c : Dev nD) (t : Fin cfg0.N) (r l : Fin 512) (p : Fin 4) (q : Fin 8192)
    (hp : p.val = t.val / 16) (hq : q.val = t.val % 16 * 512 + r.val) :
    (iblk m c 0 t : FVec Ideal S1x512x512 .bf16) (ix3 0 r l) = (m ((c : Thread nD τ).loc main_arg0) : FVec Ideal S4x8192x512 .bf16) (ix3 p q l) := by
  blk_ext! [iblk, V, idx t]

theorem read1 (c : Dev nD) (t : Fin cfg0.N) (r l : Fin 512) (p : Fin 4) (q : Fin 8192)
    (hp : p.val = t.val / 16) (hq : q.val = t.val % 16 * 512 + r.val) :
    (iblk m c 1 t : FVec Ideal S1x512x512 .bf16) (ix3 0 r l) = (m ((c : Thread nD τ).loc main_arg1) : FVec Ideal S4x8192x512 .bf16) (ix3 p q l) := by
  blk_ext! [iblk, V, idx t]

theorem read2 (c : Dev nD) (t : Fin cfg0.N) (h : Fin 8) (i k : Fin 128) :
    (iblk m c 2 t : FVec Ideal S8x128x128 .f32) (ix3 h i k) = (m ((c : Thread nD τ).loc main_arg2) : FVec Ideal S8x128x128 .f32) (ix3 h i k) := by
  blk_ext! [iblk, V, idx t]

theorem read3 (c : Dev nD) (t : Fin cfg0.N) (i : Fin 128) (l : Fin 512) (h : Fin 8) (hh : h.val = l.val / 64) :
    (iblk m c 3 t : FVec Ideal S128x512 .f32) (ix2 i l) = (m ((c : Thread nD τ).loc main_arg3) : FVec Ideal S8x128 .f32) (ix2 h i) := by
  blk_ext! [iblk, V, idx t]

theorem final (c : Dev nD) : (dats m 0 c).arrAt 4 (cfgs 0).N = result m c := by
  refine (dats m 0 c).arrAt_eq_of_covers 4 _ (by decide +kernel) fun t _ y => ?_
  blk_simp
  rw [after0_4]
  obtain ⟨y0, y1, rfl⟩ : ∃ a b : Fin 512, y = (ix3 0 a b : S1x512x512.Idx) := ⟨y 1, y 2, by blk_ext⟩
  refine (point _ _ _ _ y0 y1).trans ?_
  have ht : t.val < 64 := (idx t).2.2.2.2.2
  have e : ((View.whole main_v3).slice (win0_4.rect t)).emb (ix3 0 y0 y1)
      = (ix3 ⟨t.val / 16, by omega⟩ ⟨t.val % 16 * 512 + y0.val, by omega⟩ y1 : S4x8192x512.Idx) := by
    blk_ext [idx t]
  rw [e]
  refine Eq.trans ?_ (Cert.SguReferenceIdeal.Sgu.out_apply _ _ _ _ _ _ _).symm
  rw [goal]
  have e1 : (⟨(t.val % 16 * 512 + y0.val) % 128, by omega⟩ : Fin 128) = ⟨y0.val % 128, by omega⟩ := Fin.ext (by simp only; omega)
  rw [e1]
  congr 1
  · exact read0 m c t y0 y1 _ _ rfl rfl
  · exact read3 m c t _ y1 _ rfl
  · funext k; exact read2 m c t _ _ k
  · funext k; exact read1 m c t _ y1 _ _ rfl (by simp only; omega)

end Cert.SguKernelIdeal.Sgu
-- ==== Proof.SguClaims.lean ====
/-
  The claims about the spatial gating unit, assembled.
-/
module

public import proofs.«01_k».proof.Defs
public import proofs.«01_k».proof.Proof.Gen.SguKernel.Frame
public import proofs.«01_k».proof.Proof.SguTie

@[expose] public section

set_option maxRecDepth 16384

noncomputable section

open Idealize.ShloMosaic Idealize.ShloMosaic.TcCoe Idealize.SL.Sem
open Idealize.ShloMosaic.Pipeline (Dat)

namespace Cert.SguClaims

theorem frame_reference : Cert.quiescent_SguReferenceIdeal (hSguReferenceIdeal := Cert.SguReferenceIdeal.Gen.facts) :=
  fun m g _ => (θ_run _ _ _).mono (fun r h => ⟨fun c => (h c).2, funext fun x => by nomatch x⟩) (Cert.SguReferenceIdeal.Value.run m g)

theorem value : Cert.algebraic_SguKernelIdeal_SguReferenceIdeal (hSguKernelIdeal := Cert.SguKernelIdeal.Gen.facts)
    (hSguReferenceIdeal := Cert.SguReferenceIdeal.Gen.facts) :=
  fun m g m' g' _ hag => ⟨fun c => Cert.SguKernelIdeal.Sgu.result m c,
    (θ_run _ _ _).mono (fun _ h c => ⟨(h c).1.trans (Cert.SguKernelIdeal.Sgu.final m c), (h c).2⟩)
      (Cert.SguKernelIdeal.Value.run_blocks m g),
    (θ_run _ _ _).mono (fun _ h c => ⟨((h c).1.trans (Cert.SguReferenceIdeal.Read.val_main_v15_eq _ _ _ _)).trans (by
        obtain ⟨h0, h1, h2, h3⟩ := hag c
        rw [h0, h1, h2, h3]), (h c).2⟩)
      (Cert.SguReferenceIdeal.Value.run m' g')⟩

end Cert.SguClaims
-- ==== Proof.OutSpec.lean ====
/-
  The output projection with its residual and post-norm, as plain functions on the extended reals.
-/
module

public import proofs.«01_k».proof.Proof.FfnSpec

@[expose] public section

set_option maxRecDepth 16384

noncomputable section

open Idealize.ShloMosaic Idealize.ShloMosaic.TcCoe Idealize.SL.Sem
open Idealize.ShloMosaic.Pipeline (Dat)

namespace Cert.OutSpec

open Cert.FfnSpec

/-- A residual row with a mixer row's projection added. -/
def mixRow (x y : Fin 1024 → EReal) (w : Fin 1024 → Fin 1024 → EReal) (c : Fin 1024) : EReal :=
  alpha * x c + ∑ k, y k * w k c

/-- Two rows of 512 set side by side. -/
def join (a b : Fin 512 → EReal) (k : Fin 1024) : EReal :=
  if h : k.val < 512 then a ⟨k.val, h⟩ else b ⟨k.val - 512, by omega⟩

/-- A product with the two rows side by side is the sum of the products with each. -/
theorem sum_join (a b : Fin 512 → EReal) (w : Fin 1024 → EReal) :
    ∑ k, join a b k * w k
      = ∑ k : Fin 512, a k * w ⟨k.val, by omega⟩ + ∑ k : Fin 512, b k * w ⟨512 + k.val, by omega⟩ := by
  refine (Fin.sum_univ_add (a := 512) (b := 512) (fun k : Fin (512 + 512) => join a b k * w k)).trans ?_
  refine congrArg₂ (· + ·) (Finset.sum_congr rfl fun k _ => ?_) (Finset.sum_congr rfl fun k _ => ?_)
  · exact congrArg (· * _) (dif_pos k.isLt)
  · refine congrArg (· * _) ((dif_neg (by simp)).trans (congrArg b (Fin.ext (by simp))))

end Cert.OutSpec
-- ==== Proof.OutAbBlock.lean ====
/-
  One block of the output projection call: row by row, the layer norm of the residual with the projected mixer row.
-/
module

public import proofs.«01_k».proof.Proof.Gen.OutAbKernelIdeal.Value
public import proofs.«01_k».proof.Proof.OutSpec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutAbKernelIdeal.Out

open Cert.OutAbKernelIdeal Cert.OutAbKernelIdeal.Gen Cert.FfnSpec Cert.OutSpec

/-- What a point leaves in the output block, at an index. -/
theorem point (x0 : FVec Ideal S512x1024 .f32) (x1 x2 : FVec Ideal S512x512 .bf16)
    (x3 : FVec Ideal S1024x1024 .bf16) (x4 x5 : FVec Ideal S1x1024 .f32) (r : Fin 512) (l : Fin 1024) :
    out0_6 (F := Ideal) x0 x1 x2 x3 x4 x5 (ix2 r l)
      = lnorm (mixRow (fun k => x0 (ix2 r k)) (join (fun k => x1 (ix2 r k)) (fun k => x2 (ix2 r k))) (fun k c => x3 (ix2 k c)))
          (x4 (ix2 0 l)) (x5 (ix2 0 l)) l := by
  unfold out0_6
  frame_out
  unfold lnorm rowMean mixRow
  simp only [sum_join]
  pointwise [k0_pay1, k0_pay2, k0_pay3, k0_pay4]

end Cert.OutAbKernelIdeal.Out
-- ==== Proof.OutAbRef.lean ====
/-
  The reference of the output projection call read at an index.
-/
module

public import proofs.«01_k».proof.Proof.Gen.OutAbReferenceIdeal.Read
public import proofs.«01_k».proof.Proof.OutSpec
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutAbReferenceIdeal.Out

open Cert.OutAbReferenceIdeal Cert.OutAbReferenceIdeal.Gen Cert.OutAbReferenceIdeal.Read Cert.FfnSpec Cert.OutSpec

variable (x0 : FVec Ideal S4x8192x1024 .f32) (x1 x2 : FVec Ideal S4x8192x512 .bf16) (x3 : FVec Ideal S1024x1024 .f32)
  (x4 x5 : FVec Ideal S1024 .f32)

/-- The residual row before the norm. -/
theorem resid_apply (p : Fin 4) (q : Fin 8192) (c : Fin 1024) :
    val_main_v5 (F := Ideal) x0 x1 x2 x3 (ix3 p q c)
      = mixRow (fun k => x0 (ix3 p q k)) (join (fun k => x1 (ix3 p q k)) (fun k => x2 (ix3 p q k))) (fun k c => x3 (ix2 k c)) c := by
  unfold mixRow join
  pointwise [val_main_v5, val_main_v4, val_main_v3, val_main_v2, val_main_v1, val_main_v0, val_main_cst]

/-- The mean of the residual row. -/
theorem mean_apply (p : Fin 4) (q : Fin 8192) :
    val_main_v9 (F := Ideal) x0 x1 x2 x3 (ix3 p q 0)
      = rowMean fun c => val_main_v5 (F := Ideal) x0 x1 x2 x3 (ix3 p q c) := by
  unfold rowMean
  pointwise [val_main_v9, val_main_v8, val_main_v7, val_main_v6, val_main_cst_0, val_main_cst_1]

/-- The whole result. -/
theorem out_apply (r : Fin 32768) (c : Fin 1024) :
    val_main_v30 (F := Ideal) x0 x1 x2 x3 x4 x5 (ix2 r c)
      = lnorm (mixRow (fun k => x0 (ix3 ⟨r.val / 8192, by omega⟩ ⟨r.val % 8192, by omega⟩ k)) (join (fun k => x1 (ix3 ⟨r.val / 8192, by omega⟩ ⟨r.val % 8192, by omega⟩ k)) (fun k => x2 (ix3 ⟨r.val / 8192, by omega⟩ ⟨r.val % 8192, by omega⟩ k)))
          (fun k c => x3 (ix2 k c))) (x4 (ix1 c)) (x5 (ix1 c)) c := by
  rw [show mixRow (fun k => x0 (ix3 ⟨r.val / 8192, by omega⟩ ⟨r.val % 8192, by omega⟩ k)) (join (fun k => x1 (ix3 ⟨r.val / 8192, by omega⟩ ⟨r.val % 8192, by omega⟩ k)) (fun k => x2 (ix3 ⟨r.val / 8192, by omega⟩ ⟨r.val % 8192, by omega⟩ k)))
          (fun k c => x3 (ix2 k c))
      = fun c => val_main_v5 (F := Ideal) x0 x1 x2 x3 (ix3 ⟨r.val / 8192, by omega⟩ ⟨r.val % 8192, by omega⟩ c)
    from funext fun c => (resid_apply x0 x1 x2 x3 _ _ c).symm]
  rw [lnorm, ← mean_apply]
  unfold rowMean
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_cst_2, val_main_cst_3, val_main_cst_4]

end Cert.OutAbReferenceIdeal.Out
-- ==== Proof.OutAbTie.lean ====
/-
  The output projection call: the kernel's result array after its run is the reference's, element by element.
-/
module

public import proofs.«01_k».proof.Proof.OutAbBlock
public import proofs.«01_k».proof.Proof.OutAbRef

@[expose] public section

set_option maxRecDepth 16384

noncomputable section

open Idealize.ShloMosaic Idealize.ShloMosaic.TcCoe Idealize.SL.Sem
open Idealize.ShloMosaic.Pipeline (Dat)

namespace Cert.OutAbKernelIdeal.Out

open Cert.OutAbKernelIdeal Cert.OutAbKernelIdeal.Gen Cert.FfnSpec Cert.OutSpec

variable (m : (ℓ : Loc nD τ sig) → Buf (Elt Ideal) ℓ)

/-- The block index of every window at every point. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] ∧ t.val < 64 :=
  (by decide +kernel : ∀ t : Fin grid0.N, _)

/-- The result array: the reference's value at the kernel's arguments. -/
abbrev result (c : Dev nD) : FVec Ideal S32768x1024 .f32 :=
  Cert.OutAbReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem read0 (c : Dev nD) (t : Fin cfg0.N) (r : Fin 512) (k : Fin 1024) (p : Fin 4) (q : Fin 8192)
    (hp : p.val = (t.val * 512 + r.val) / 8192) (hq : q.val = (t.val * 512 + r.val) % 8192) :
    (iblk m c 0 t : FVec Ideal S512x1024 .f32) (ix2 r k) = (m ((c : Thread nD τ).loc main_arg0) : FVec Ideal S4x8192x1024 .f32) (ix3 p q k) := by
  blk_ext! [iblk, V, idx t]

theorem read1 (c : Dev nD) (t : Fin cfg0.N) (r : Fin 512) (k : Fin 512) (p : Fin 4) (q : Fin 8192)
    (hp : p.val = (t.val * 512 + r.val) / 8192) (hq : q.val = (t.val * 512 + r.val) % 8192) :
    (iblk m c 1 t : FVec Ideal S512x512 .bf16) (ix2 r k) = (m ((c : Thread nD τ).loc main_arg1) : FVec Ideal S4x8192x512 .bf16) (ix3 p q k) := by
  blk_ext! [iblk, V, idx t]

theorem read2 (c : Dev nD) (t : Fin cfg0.N) (r : Fin 512) (k : Fin 512) (p : Fin 4) (q : Fin 8192)
    (hp : p.val = (t.val * 512 + r.val) / 8192) (hq : q.val = (t.val * 512 + r.val) % 8192) :
    (iblk m c 2 t : FVec Ideal S512x512 .bf16) (ix2 r k) = (m ((c : Thread nD τ).loc main_arg2) : FVec Ideal S4x8192x512 .bf16) (ix3 p q k) := by
  blk_ext! [iblk, V, idx t]

theorem read3 (c : Dev nD) (t : Fin cfg0.N) (k f : Fin 1024) :
    (iblk m c 3 t : FVec Ideal S1024x1024 .bf16) (ix2 k f) = (m ((c : Thread nD τ).loc main_arg3) : FVec Ideal S1024x1024 .f32) (ix2 k f) := by
  blk_ext! [iblk, V, idx t]

theorem read4 (c : Dev nD) (t : Fin cfg0.N) (k : Fin 1024) :
    (iblk m c 4 t : FVec Ideal S1x1024 .f32) (ix2 0 k) = (m ((c : Thread nD τ).loc main_arg4) : FVec Ideal S1024 .f32) (ix1 k) := by
  blk_ext! [iblk, V, idx t]

theorem read5 (c : Dev nD) (t : Fin cfg0.N) (k : Fin 1024) :
    (iblk m c 5 t : FVec Ideal S1x1024 .f32) (ix2 0 k) = (m ((c : Thread nD τ).loc main_arg5) : FVec Ideal S1024 .f32) (ix1 k) := by
  blk_ext! [iblk, V, idx t]

theorem final (c : Dev nD) : (dats m 0 c).arrAt 6 (cfgs 0).N = result m c := by
  refine (dats m 0 c).arrAt_eq_of_covers 6 _ (by decide +kernel) fun t _ y => ?_
  blk_simp
  rw [after0_6]
  idx_vars y
  refine (point _ _ _ _ _ _ y0 y1).trans ?_
  have ht : t.val < 64 := (idx t).2.2.2.2.2.2.2
  have e : ((View.whole main_v6).slice (win0_6.rect t)).emb (ix2 y0 y1)
      = (ix2 ⟨t.val * 512 + y0.val, by omega⟩ y1 : S32768x1024.Idx) := by
    blk_ext [idx t]
  rw [e]
  refine Eq.trans ?_ (Cert.OutAbReferenceIdeal.Out.out_apply _ _ _ _ _ _ _ _).symm
  rw [read4, read5]
  congr 1
  congr 1
  · funext k; exact read0 m c t y0 k _ _ rfl rfl
  · congr 1
    · funext k; exact read1 m c t y0 k _ _ rfl rfl
    · funext k; exact read2 m c t y0 k _ _ rfl rfl
  · funext k f; exact read3 m c t k f

end Cert.OutAbKernelIdeal.Out
-- ==== Proof.OutAbClaims.lean ====
/-
  The claims about the output projection call, assembled.
-/
module

public import proofs.«01_k».proof.Defs
public import proofs.«01_k».proof.Proof.Gen.OutAbKernel.Frame
public import proofs.«01_k».proof.Proof.OutAbTie

@[expose] public section

set_option maxRecDepth 16384

noncomputable section

open Idealize.ShloMosaic Idealize.ShloMosaic.TcCoe Idealize.SL.Sem
open Idealize.ShloMosaic.Pipeline (Dat)

namespace Cert.OutAbClaims

theorem frame_reference : Cert.quiescent_OutAbReferenceIdeal (hOutAbReferenceIdeal := Cert.OutAbReferenceIdeal.Gen.facts) :=
  fun m g _ => (θ_run _ _ _).mono (fun r h => ⟨fun c => (h c).2, funext fun x => by nomatch x⟩) (Cert.OutAbReferenceIdeal.Value.run m g)

theorem value : Cert.algebraic_OutAbKernelIdeal_OutAbReferenceIdeal (hOutAbKernelIdeal := Cert.OutAbKernelIdeal.Gen.facts)
    (hOutAbReferenceIdeal := Cert.OutAbReferenceIdeal.Gen.facts) :=
  fun m g m' g' _ hag => ⟨fun c => Cert.OutAbKernelIdeal.Out.result m c,
    (θ_run _ _ _).mono (fun _ h c => ⟨(h c).1.trans (Cert.OutAbKernelIdeal.Out.final m c), (h c).2⟩)
      (Cert.OutAbKernelIdeal.Value.run_blocks m g),
    (θ_run _ _ _).mono (fun _ h c => ⟨(h c).1.trans (by
        obtain ⟨h0, h1, h2, h3, h4, h5⟩ := hag c
        rw [Cert.OutAbReferenceIdeal.Read.val_main_v30_eq, h0, h1, h2, h3, h4, h5]), (h c).2⟩)
      (Cert.OutAbReferenceIdeal.Value.run m' g')⟩

end Cert.OutAbClaims
-- ==== Proof.OutCBlock.lean ====
/-
  One block of the output projection call: row by row, the layer norm of the residual with the projected mixer row.
-/
module

public import proofs.«01_k».proof.Proof.Gen.OutCKernelIdeal.Value
public import proofs.«01_k».proof.Proof.OutSpec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutCKernelIdeal.Out

open Cert.OutCKernelIdeal Cert.OutCKernelIdeal.Gen Cert.FfnSpec Cert.OutSpec

/-- What a point leaves in the output block, at an index. -/
theorem point (x0 : FVec Ideal S512x1024 .f32) (x1 : FVec Ideal S512x1024 .bf16)
    (x2 : FVec Ideal S1024x1024 .bf16) (x3 x4 : FVec Ideal S1x1024 .f32) (r : Fin 512) (l : Fin 1024) :
    out0_5 (F := Ideal) x0 x1 x2 x3 x4 (ix2 r l)
      = lnorm (mixRow (fun k => x0 (ix2 r k)) (fun k => x1 (ix2 r k)) (fun k c => x2 (ix2 k c)))
          (x3 (ix2 0 l)) (x4 (ix2 0 l)) l := by
  unfold out0_5
  frame_out
  unfold lnorm rowMean mixRow
  skip
  pointwise [k0_pay1]

end Cert.OutCKernelIdeal.Out
-- ==== Proof.OutCRef.lean ====
/-
  The reference of the output projection call read at an index.
-/
module

public import proofs.«01_k».proof.Proof.Gen.OutCReferenceIdeal.Read
public import proofs.«01_k».proof.Proof.OutSpec
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutCReferenceIdeal.Out

open Cert.OutCReferenceIdeal Cert.OutCReferenceIdeal.Gen Cert.OutCReferenceIdeal.Read Cert.FfnSpec Cert.OutSpec

variable (x0 : FVec Ideal S4x8192x1024 .f32) (x1 : FVec Ideal S4x8192x1024 .bf16) (x2 : FVec Ideal S1024x1024 .f32)
  (x3 x4 : FVec Ideal S1024 .f32)

/-- The residual row before the norm. -/
theorem resid_apply (p : Fin 4) (q : Fin 8192) (c : Fin 1024) :
    val_main_v4 (F := Ideal) x0 x1 x2 (ix3 p q c)
      = mixRow (fun k => x0 (ix3 p q k)) (fun k => x1 (ix3 p q k)) (fun k c => x2 (ix2 k c)) c := by
  unfold mixRow
  pointwise [val_main_v4, val_main_v3, val_main_v2, val_main_v1, val_main_v0, val_main_cst]

/-- The mean of the residual row. -/
theorem mean_apply (p : Fin 4) (q : Fin 8192) :
    val_main_v8 (F := Ideal) x0 x1 x2 (ix3 p q 0)
      = rowMean fun c => val_main_v4 (F := Ideal) x0 x1 x2 (ix3 p q c) := by
  unfold rowMean
  pointwise [val_main_v8, val_main_v7, val_main_v6, val_main_v5, val_main_cst_0, val_main_cst_1]

/-- The whole result. -/
theorem out_apply (r : Fin 32768) (c : Fin 1024) :
    val_main_v29 (F := Ideal) x0 x1 x2 x3 x4 (ix2 r c)
      = lnorm (mixRow (fun k => x0 (ix3 ⟨r.val / 8192, by omega⟩ ⟨r.val % 8192, by omega⟩ k)) (fun k => x1 (ix3 ⟨r.val / 8192, by omega⟩ ⟨r.val % 8192, by omega⟩ k))
          (fun k c => x2 (ix2 k c))) (x3 (ix1 c)) (x4 (ix1 c)) c := by
  rw [show mixRow (fun k => x0 (ix3 ⟨r.val / 8192, by omega⟩ ⟨r.val % 8192, by omega⟩ k)) (fun k => x1 (ix3 ⟨r.val / 8192, by omega⟩ ⟨r.val % 8192, by omega⟩ k))
          (fun k c => x2 (ix2 k c))
      = fun c => val_main_v4 (F := Ideal) x0 x1 x2 (ix3 ⟨r.val / 8192, by omega⟩ ⟨r.val % 8192, by omega⟩ c)
    from funext fun c => (resid_apply x0 x1 x2 _ _ c).symm]
  rw [lnorm, ← mean_apply]
  unfold rowMean
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst_2, val_main_cst_3, val_main_cst_4]

end Cert.OutCReferenceIdeal.Out
-- ==== Proof.OutCTie.lean ====
/-
  The output projection call: the kernel's result array after its run is the reference's, element by element.
-/
module

public import proofs.«01_k».proof.Proof.OutCBlock
public import proofs.«01_k».proof.Proof.OutCRef

@[expose] public section

set_option maxRecDepth 16384

noncomputable section

open Idealize.ShloMosaic Idealize.ShloMosaic.TcCoe Idealize.SL.Sem
open Idealize.ShloMosaic.Pipeline (Dat)

namespace Cert.OutCKernelIdeal.Out

open Cert.OutCKernelIdeal Cert.OutCKernelIdeal.Gen Cert.FfnSpec Cert.OutSpec

variable (m : (ℓ : Loc nD τ sig) → Buf (Elt Ideal) ℓ)

/-- The block index of every window at every point. -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![t.val, 0] ∧ t.val < 64 :=
  (by decide +kernel : ∀ t : Fin grid0.N, _)

/-- The result array: the reference's value at the kernel's arguments. -/
abbrev result (c : Dev nD) : FVec Ideal S32768x1024 .f32 :=
  Cert.OutCReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem read0 (c : Dev nD) (t : Fin cfg0.N) (r : Fin 512) (k : Fin 1024) (p : Fin 4) (q : Fin 8192)
    (hp : p.val = (t.val * 512 + r.val) / 8192) (hq : q.val = (t.val * 512 + r.val) % 8192) :
    (iblk m c 0 t : FVec Ideal S512x1024 .f32) (ix2 r k) = (m ((c : Thread nD τ).loc main_arg0) : FVec Ideal S4x8192x1024 .f32) (ix3 p q k) := by
  blk_ext! [iblk, V, idx t]

theorem read1 (c : Dev nD) (t : Fin cfg0.N) (r : Fin 512) (k : Fin 1024) (p : Fin 4) (q : Fin 8192)
    (hp : p.val = (t.val * 512 + r.val) / 8192) (hq : q.val = (t.val * 512 + r.val) % 8192) :
    (iblk m c 1 t : FVec Ideal S512x1024 .bf16) (ix2 r k) = (m ((c : Thread nD τ).loc main_arg1) : FVec Ideal S4x8192x1024 .bf16) (ix3 p q k) := by
  blk_ext! [iblk, V, idx t]

theorem read2 (c : Dev nD) (t : Fin cfg0.N) (k f : Fin 1024) :
    (iblk m c 2 t : FVec Ideal S1024x1024 .bf16) (ix2 k f) = (m ((c : Thread nD τ).loc main_arg2) : FVec Ideal S1024x1024 .f32) (ix2 k f) := by
  blk_ext! [iblk, V, idx t]

theorem read3 (c : Dev nD) (t : Fin cfg0.N) (k : Fin 1024) :
    (iblk m c 3 t : FVec Ideal S1x1024 .f32) (ix2 0 k) = (m ((c : Thread nD τ).loc main_arg3) : FVec Ideal S1024 .f32) (ix1 k) := by
  blk_ext! [iblk, V, idx t]

theorem read4 (c : Dev nD) (t : Fin cfg0.N) (k : Fin 1024) :
    (iblk m c 4 t : FVec Ideal S1x1024 .f32) (ix2 0 k) = (m ((c : Thread nD τ).loc main_arg4) : FVec Ideal S1024 .f32) (ix1 k) := by
  blk_ext! [iblk, V, idx t]

theorem final (c : Dev nD) : (dats m 0 c).arrAt 5 (cfgs 0).N = result m c := by
  refine (dats m 0 c).arrAt_eq_of_covers 5 _ (by decide +kernel) fun t _ y => ?_
  blk_simp
  rw [after0_5]
  idx_vars y
  refine (point _ _ _ _ _ y0 y1).trans ?_
  have ht : t.val < 64 := (idx t).2.2.2.2.2.2
  have e : ((View.whole main_v5).slice (win0_5.rect t)).emb (ix2 y0 y1)
      = (ix2 ⟨t.val * 512 + y0.val, by omega⟩ y1 : S32768x1024.Idx) := by
    blk_ext [idx t]
  rw [e]
  refine Eq.trans ?_ (Cert.OutCReferenceIdeal.Out.out_apply _ _ _ _ _ _ _).symm
  rw [read3, read4]
  congr 1
  congr 1
  · funext k; exact read0 m c t y0 k _ _ rfl rfl
  · funext k; exact read1 m c t y0 k _ _ rfl rfl
  · funext k f; exact read2 m c t k f

end Cert.OutCKernelIdeal.Out
-- ==== Proof.OutCClaims.lean ====
/-
  The claims about the output projection call, assembled.
-/
module

public import proofs.«01_k».proof.Defs
public import proofs.«01_k».proof.Proof.Gen.OutCKernel.Frame
public import proofs.«01_k».proof.Proof.OutCTie

@[expose] public section

set_option maxRecDepth 16384

noncomputable section

open Idealize.ShloMosaic Idealize.ShloMosaic.TcCoe Idealize.SL.Sem
open Idealize.ShloMosaic.Pipeline (Dat)

namespace Cert.OutCClaims

theorem frame_reference : Cert.quiescent_OutCReferenceIdeal (hOutCReferenceIdeal := Cert.OutCReferenceIdeal.Gen.facts) :=
  fun m g _ => (θ_run _ _ _).mono (fun r h => ⟨fun c => (h c).2, funext fun x => by nomatch x⟩) (Cert.OutCReferenceIdeal.Value.run m g)

theorem value : Cert.algebraic_OutCKernelIdeal_OutCReferenceIdeal (hOutCKernelIdeal := Cert.OutCKernelIdeal.Gen.facts)
    (hOutCReferenceIdeal := Cert.OutCReferenceIdeal.Gen.facts) :=
  fun m g m' g' _ hag => ⟨fun c => Cert.OutCKernelIdeal.Out.result m c,
    (θ_run _ _ _).mono (fun _ h c => ⟨(h c).1.trans (Cert.OutCKernelIdeal.Out.final m c), (h c).2⟩)
      (Cert.OutCKernelIdeal.Value.run_blocks m g),
    (θ_run _ _ _).mono (fun _ h c => ⟨(h c).1.trans (by
        obtain ⟨h0, h1, h2, h3, h4⟩ := hag c
        rw [Cert.OutCReferenceIdeal.Read.val_main_v29_eq, h0, h1, h2, h3, h4]), (h c).2⟩)
      (Cert.OutCReferenceIdeal.Value.run m' g')⟩

end Cert.OutCClaims
-- ==== Proof.ProjSpec.lean ====
/-
  The rotary pairs, the gelu and the 512-wide layer norm of the projection call, as plain functions on the extended reals.
-/
module

public import proofs.«01_k».proof.Proof.FfnSpec

@[expose] public section

set_option maxRecDepth 16384

noncomputable section

open Idealize.ShloMosaic Idealize.ShloMosaic.TcCoe Idealize.SL.Sem
open Idealize.ShloMosaic.Pipeline (Dat)

namespace Cert.ProjSpec

/-- The angle of position `s` in pair `j`. -/
def angle (s j : ℕ) : EReal :=
  FloatOps.sitofp (F := Ideal) .f32 (BitVec.ofNat 32 s) * Ideal.pow (Ideal.ofBits .f32 0x461C4000#32)
    (Ideal.div (-FloatOps.sitofp (F := Ideal) .f32 (BitVec.ofNat 32 j)) (Ideal.ofBits .f32 0x42000000#32))

/-- The other lane of a rotary pair. -/
def mate (l : Fin 512) : Fin 512 := ⟨l.val / 64 * 64 + (l.val % 64 + 32) % 64, by omega⟩

/-- One lane of a rotated row. -/
def rotated (c s : EReal) (P : Fin 512 → EReal) (l : Fin 512) : EReal :=
  P l * c + P (mate l) * (if l.val % 64 < 32 then 0 - s else s)

theorem mk_eq {n a b : ℕ} (ha : a < n) (hb : b < n) (h : a = b) : (⟨a, ha⟩ : Fin n) = ⟨b, hb⟩ := Fin.ext h

theorem rotated_lo (c s : EReal) (P : Fin 512 → EReal) (l : Fin 512) (h : l.val % 64 < 32) :
    rotated c s P l = P l * c - P ⟨l.val / 64 * 64 + (32 + l.val % 64), by omega⟩ * s := by
  rw [rotated, if_pos h, zero_sub, mul_neg, sub_eq_add_neg]
  exact congrArg (fun z => P l * c + -(P z * s)) (Fin.ext (by simp only [mate]; omega))

theorem rotated_hi (c s : EReal) (P : Fin 512 → EReal) (l : Fin 512) (h : ¬l.val % 64 < 32) :
    rotated c s P l = P l * c + P ⟨l.val / 64 * 64 + (l.val % 64 - 32), by omega⟩ * s := by
  rw [rotated, if_neg h]
  exact congrArg (fun z => P l * c + (P z * s)) (Fin.ext (by simp only [mate]; omega))

/-- The rotated row, in the two halves the reference concatenates. -/
theorem rotated_split (P : Fin 512 → EReal) (C S : Fin 32 → EReal) (l : Fin 512) :
    rotated (C ⟨l.val % 32, by omega⟩) (S ⟨l.val % 32, by omega⟩) P l
      = if h : l.val % 64 < 32 then P l * C ⟨l.val % 64, h⟩ - P ⟨l.val / 64 * 64 + (32 + l.val % 64), by omega⟩ * S ⟨l.val % 64, h⟩
        else P ⟨l.val / 64 * 64 + (32 + (l.val % 64 - 32)), by omega⟩ * C ⟨l.val % 64 - 32, by omega⟩
          + P ⟨l.val / 64 * 64 + (l.val % 64 - 32), by omega⟩ * S ⟨l.val % 64 - 32, by omega⟩ := by
  by_cases h : l.val % 64 < 32
  · rw [rotated_lo _ _ _ _ h, dif_pos h]
    have e : (⟨l.val % 32, by omega⟩ : Fin 32) = ⟨l.val % 64, h⟩ := mk_eq _ _ (by omega)
    rw [e]
  · rw [rotated_hi _ _ _ _ h, dif_neg h]
    have e : (⟨l.val % 32, by omega⟩ : Fin 32) = ⟨l.val % 64 - 32, by omega⟩ := mk_eq _ _ (by omega)
    have f : l = ⟨l.val / 64 * 64 + (32 + (l.val % 64 - 32)), by omega⟩ := mk_eq l.isLt _ (by omega)
    rw [e, ← f]

/-- The gelu, in its tanh form. -/
def gelu (z : EReal) : EReal :=
  z * (Ideal.ofBits .f32 0x3F000000#32 * (Ideal.ofBits .f32 0x3F800000#32 + Ideal.tanh
    (Ideal.ofBits .f32 0x3F4C422A#32 * (z + Ideal.ofBits .f32 0x3D372713#32 * (z * (z * z))))))

theorem gelu_eq (z : EReal) : gelu z = z * (Ideal.ofBits .f32 0x3F000000#32 * (Ideal.ofBits .f32 0x3F800000#32 + Ideal.tanh
    (Ideal.ofBits .f32 0x3F4C422A#32 * (z + Ideal.ofBits .f32 0x3D372713#32 * (z * z * z))))) := by
  rw [gelu, mul_assoc z z z]

/-- The mean of a row of 512. -/
def mean512 (z : Fin 512 → EReal) : EReal := Ideal.div (∑ c, z c) (Ideal.ofBits .f32 0x44000000#32)

/-- The layer norm of a row of 512, at a lane with gain `g` and offset `b`. -/
def lnorm512 (z : Fin 512 → EReal) (g b : EReal) (c : Fin 512) : EReal :=
  (z c - mean512 z) * Ideal.rsqrt (mean512 (fun k => (z k - mean512 z) * (z k - mean512 z)) + Ideal.ofBits .f32 0x3727C5AC#32) * g + b

/-- One lane of a row's product with 512 columns of a matrix starting at column `o`. -/
def part (o : ℕ) (ho : o ≤ 2048) (x : Fin 1024 → EReal) (w : Fin 1024 → Fin 2560 → EReal) (l : Fin 512) : EReal :=
  ∑ k, x k * w k ⟨o + l.val, by omega⟩

end Cert.ProjSpec
-- ==== Proof.ProjAbBlock.lean ====
/-
  One block of the mixer projection call: rotated queries and keys, values, gelu and normalised gelu.
-/
module

public import proofs.«01_k».proof.Proof.Gen.ProjAbKernelIdeal.Value
public import proofs.«01_k».proof.Proof.ProjSpec
public import proofs.«01_k».proof.Proof.WordSpec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjAbKernelIdeal.Proj

open Cert.ProjAbKernelIdeal Cert.ProjAbKernelIdeal.Gen Cert.ProjSpec Cert.WordSpec

/-- The word arithmetic that tells the first half of each head's lanes. -/
theorem half_word : ∀ j : Fin 128, IntOp.cmpi CmpIPredicate.slt
      (Scalar.select
        (IntOp.andi
          (IntOp.xori
            (IntOp.cmpi CmpIPredicate.slt
              (IntOp.remsi ArithUnit.vector (BitVec.ofNat 32 j.val)
                (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 j.val)
              (Scalar.select (Scalar.cmpi CmpIPredicate.eq 64#32 0#32) 1#32 64#32))
            0#32))
        (IntOp.addi
          (IntOp.remsi ArithUnit.vector (BitVec.ofNat 32 j.val)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 j.val)
          (Scalar.select (Scalar.cmpi CmpIPredicate.eq 64#32 0#32) 1#32 64#32)))
      32#32 = if j.val % 64 < 32 then 1#1 else 0#1 := by
  decide +kernel

theorem half {α : Type} (r : Fin 512) (j : Fin 128) (x y : α) :
    Scalar.select (k0_pay4 (ix2 r j)) x y = if j.val % 64 < 32 then x else y := by
  have h : k0_pay4 (ix2 r j) = if j.val % 64 < 32 then 1#1 else 0#1 := by
    refine Eq.trans ?_ (half_word j)
    pointwise [k0_pay4]
  rw [h]
  by_cases h : j.val % 64 < 32
  · rw [if_pos h, if_pos h, ValueIdx.select_one]
  · rw [if_neg h, if_neg h, ValueIdx.select_zero]

theorem pieceq (v0 : FVec Ideal S1x512x1024 .f32) (v3 v5 : FVec Ideal S512x128 .f32) (w : FVec Ideal S1024x128 .bf16)
    (r : Fin 512) (j : Fin 128) :
    k0_pay9 (F := Ideal) k0_pay4 (k0_pay5 v5) (k0_pay6 v0 w) (k0_pay8 v0 v3 w) 32#32 (ix3 0 r j)
      = ((∑ x, v0 (ix3 0 r x) * w (ix2 x j)) * v3 (ix2 r j) + (if j.val % 64 < 32 then
          ∑ x, v0 (ix3 0 r x) * w (ix2 x ⟨(j.val + 128 - 96) % 128, by omega⟩)
          else ∑ x, v0 (ix3 0 r x) * w (ix2 x ⟨(j.val + 128 - 32) % 128, by omega⟩))
          * (if j.val % 64 < 32 then 0 - v5 (ix2 r j) else v5 (ix2 r j))) * Ideal.ofBits .f32 0x3E000000#32 := by
  pointwise [k0_pay9, k0_pay5, k0_pay6, k0_pay8, k0_pay2, k0_pay3]
  simp only [half]

theorem piecek (v0 : FVec Ideal S1x512x1024 .f32) (v3 v5 : FVec Ideal S512x128 .f32) (w : FVec Ideal S1024x128 .bf16)
    (r : Fin 512) (j : Fin 128) :
    k0_pay10 (F := Ideal) (k0_pay3 v3) k0_pay4 (k0_pay5 v5) (k0_pay7 v0 w) (ix3 0 r j)
      = ((∑ x, v0 (ix3 0 r x) * w (ix2 x j)) * v3 (ix2 r j) + (if j.val % 64 < 32 then
          ∑ x, v0 (ix3 0 r x) * w (ix2 x ⟨(j.val + 128 - 96) % 128, by omega⟩)
          else ∑ x, v0 (ix3 0 r x) * w (ix2 x ⟨(j.val + 128 - 32) % 128, by omega⟩))
          * (if j.val % 64 < 32 then 0 - v5 (ix2 r j) else v5 (ix2 r j))) := by
  pointwise [k0_pay10, k0_pay5, k0_pay7, k0_pay2, k0_pay3]
  simp only [half]

/-- A load reads the block at the rectangle's own index. -/
theorem ld_eq {S : Shape} {e : EltTy} (x : Vec Ideal S e) (r : Rect S) (i : r.shape.Idx) (j : S.Idx)
    (h : ∀ a, (r.idx i a).val = (j a).val) : View.ld (Val := Elt Ideal) (S := S) (e' := e) x r i = x j :=
  congrArg x (funext fun a => Fin.ext (h a))

/-- A lane of the rotated product with the columns from `o` on. -/
def spin (o : ℕ) (ho : o ≤ 2048) (x0 : FVec Ideal S1x512x1024 .f32) (x1 : FVec Ideal S1024x2560 .bf16)
    (x2 x3 : FVec Ideal S512x128 .f32) (r l : Fin 512) : EReal :=
  rotated (x2 (ix2 r ⟨l.val % 128, by omega⟩)) (x3 (ix2 r ⟨l.val % 128, by omega⟩)) (part o ho (fun k => x0 (ix3 0 r k)) (fun k c => x1 (ix2 k c))) l

/-- A rotated tile stored at lane group `g`. -/
theorem tileq (o : ℕ) (ho : o ≤ 2048) (g : Fin 4) (x0 : FVec Ideal S1x512x1024 .f32) (x1 : FVec Ideal S1024x2560 .bf16)
    (x2 x3 : FVec Ideal S512x128 .f32) (v0 : FVec Ideal S1x512x1024 .f32) (v3 v5 : FVec Ideal S512x128 .f32)
    (w : FVec Ideal S1024x128 .bf16) (z : S1x512x128.Idx) (r l : Fin 512)
    (h1 : r.val = (z 1).val) (h2 : l.val = 128 * g.val + (z 2).val)
    (e0 : ∀ i k, v0 (ix3 0 i k) = x0 (ix3 0 i k)) (e3 : ∀ i k, v3 (ix2 i k) = x2 (ix2 i k))
    (e5 : ∀ i k, v5 (ix2 i k) = x3 (ix2 i k))
    (ew : ∀ (i : Fin 1024) (k : Fin 128), w (ix2 i k) = x1 (ix2 i ⟨o + (128 * g.val + k.val), by omega⟩)) :
    k0_pay9 (F := Ideal) k0_pay4 (k0_pay5 v5) (k0_pay6 v0 w) (k0_pay8 v0 v3 w) 32#32 z = spin o ho x0 x1 x2 x3 r l * Ideal.ofBits .f32 0x3E000000#32 := by
  obtain ⟨i, j, rfl⟩ : ∃ (i : Fin 512) (j : Fin 128), z = ix3 0 i j := ⟨z 1, z 2, by blk_ext⟩
  replace h1 : r.val = i.val := h1
  replace h2 : l.val = 128 * g.val + j.val := h2
  obtain rfl : r = i := Fin.ext h1
  have h4 : 128 * g.val + j.val < 512 := by omega
  obtain rfl : l = ⟨128 * g.val + j.val, h4⟩ := Fin.ext h2
  rw [pieceq]
  simp only [e0, e3, e5, ew, spin, rotated, part, mate]
  have e : (⟨(128 * g.val + j.val) % 128, by omega⟩ : Fin 128) = j := Fin.ext (by simp only; omega)
  rw [e]
  clear e
  by_cases h : j.val % 64 < 32
  · have h' : (128 * g.val + j.val) % 64 < 32 := by omega
    rw [if_pos h, if_pos h, if_pos h']
    have q : (⟨o + (128 * g.val + (j.val + 128 - 96) % 128), by omega⟩ : Fin 2560)
        = ⟨o + ((128 * g.val + j.val) / 64 * 64 + ((128 * g.val + j.val) % 64 + 32) % 64), by omega⟩ :=
      Fin.ext (by dsimp only; omega)
    simp only [q]
  · have h' : ¬(128 * g.val + j.val) % 64 < 32 := by omega
    rw [if_neg h, if_neg h, if_neg h']
    have q : (⟨o + (128 * g.val + (j.val + 128 - 32) % 128), by omega⟩ : Fin 2560)
        = ⟨o + ((128 * g.val + j.val) / 64 * 64 + ((128 * g.val + j.val) % 64 + 32) % 64), by omega⟩ :=
      Fin.ext (by dsimp only; omega)
    simp only [q]

/-- A rotated tile stored at lane group `g`. -/
theorem tilek (o : ℕ) (ho : o ≤ 2048) (g : Fin 4) (x0 : FVec Ideal S1x512x1024 .f32) (x1 : FVec Ideal S1024x2560 .bf16)
    (x2 x3 : FVec Ideal S512x128 .f32) (v0 : FVec Ideal S1x512x1024 .f32) (v3 v5 : FVec Ideal S512x128 .f32)
    (w : FVec Ideal S1024x128 .bf16) (z : S1x512x128.Idx) (r l : Fin 512)
    (h1 : r.val = (z 1).val) (h2 : l.val = 128 * g.val + (z 2).val)
    (e0 : ∀ i k, v0 (ix3 0 i k) = x0 (ix3 0 i k)) (e3 : ∀ i k, v3 (ix2 i k) = x2 (ix2 i k))
    (e5 : ∀ i k, v5 (ix2 i k) = x3 (ix2 i k))
    (ew : ∀ (i : Fin 1024) (k : Fin 128), w (ix2 i k) = x1 (ix2 i ⟨o + (128 * g.val + k.val), by omega⟩)) :
    k0_pay10 (F := Ideal) (k0_pay3 v3) k0_pay4 (k0_pay5 v5) (k0_pay7 v0 w) z = spin o ho x0 x1 x2 x3 r l := by
  obtain ⟨i, j, rfl⟩ : ∃ (i : Fin 512) (j : Fin 128), z = ix3 0 i j := ⟨z 1, z 2, by blk_ext⟩
  replace h1 : r.val = i.val := h1
  replace h2 : l.val = 128 * g.val + j.val := h2
  obtain rfl : r = i := Fin.ext h1
  have h4 : 128 * g.val + j.val < 512 := by omega
  obtain rfl : l = ⟨128 * g.val + j.val, h4⟩ := Fin.ext h2
  rw [piecek]
  simp only [e0, e3, e5, ew, spin, rotated, part, mate]
  have e : (⟨(128 * g.val + j.val) % 128, by omega⟩ : Fin 128) = j := Fin.ext (by simp only; omega)
  rw [e]
  clear e
  by_cases h : j.val % 64 < 32
  · have h' : (128 * g.val + j.val) % 64 < 32 := by omega
    rw [if_pos h, if_pos h, if_pos h']
    have q : (⟨o + (128 * g.val + (j.val + 128 - 96) % 128), by omega⟩ : Fin 2560)
        = ⟨o + ((128 * g.val + j.val) / 64 * 64 + ((128 * g.val + j.val) % 64 + 32) % 64), by omega⟩ :=
      Fin.ext (by dsimp only; omega)
    simp only [q]
  · have h' : ¬(128 * g.val + j.val) % 64 < 32 := by omega
    rw [if_neg h, if_neg h, if_neg h']
    have q : (⟨o + (128 * g.val + (j.val + 128 - 32) % 128), by omega⟩ : Fin 2560)
        = ⟨o + ((128 * g.val + j.val) / 64 * 64 + ((128 * g.val + j.val) % 64 + 32) % 64), by omega⟩ :=
      Fin.ext (by dsimp only; omega)
    simp only [q]

theorem pointq (x0 : FVec Ideal S1x512x1024 .f32) (x1 : FVec Ideal S1024x2560 .bf16)
    (x2 x3 : FVec Ideal S512x128 .f32) (x4 x5 : FVec Ideal S1x512 .f32) (r l : Fin 512) : out0_6 (F := Ideal) x0 x1 x2 x3 x4 x5 (ix3 0 r l)
      = spin 0 (by omega) x0 x1 x2 x3 r l * Ideal.ofBits .f32 0x3E000000#32 := by
  unfold_out out0_6
  canon_tiles z h
  · exact tileq 0 (by omega) 3 x0 x1 x2 x3 (View.ld (Val := Elt Ideal) (S := S1x512x1024) (e' := .f32) x0 r0_0)
      (View.ld (Val := Elt Ideal) (S := S512x128) (e' := .f32) x2 r0_1) (View.ld (Val := Elt Ideal) (S := S512x128) (e' := .f32) x3 r0_1)
      (View.ld (Val := Elt Ideal) (S := S1024x2560) (e' := .bf16) x1 r0_11) z r l (by simpa using h1) (by simpa using h2)
      (fun i k => ld_eq _ _ _ _ (by intro a; fin_cases a <;> simp [Rect.unit] <;> omega)) (fun i k => ld_eq _ _ _ _ (by intro a; fin_cases a <;> simp [Rect.unit] <;> omega))
      (fun i k => ld_eq _ _ _ _ (by intro a; fin_cases a <;> simp [Rect.unit] <;> omega)) (fun i k => ld_eq _ _ _ _ (by intro a; fin_cases a <;> simp [Rect.unit] <;> omega))
  · exact tileq 0 (by omega) 2 x0 x1 x2 x3 (View.ld (Val := Elt Ideal) (S := S1x512x1024) (e' := .f32) x0 r0_0)
      (View.ld (Val := Elt Ideal) (S := S512x128) (e' := .f32) x2 r0_1) (View.ld (Val := Elt Ideal) (S := S512x128) (e' := .f32) x3 r0_1)
      (View.ld (Val := Elt Ideal) (S := S1024x2560) (e' := .bf16) x1 r0_8) z r l (by simpa using h1) (by simpa using h2)
      (fun i k => ld_eq _ _ _ _ (by intro a; fin_cases a <;> simp [Rect.unit] <;> omega)) (fun i k => ld_eq _ _ _ _ (by intro a; fin_cases a <;> simp [Rect.unit] <;> omega))
      (fun i k => ld_eq _ _ _ _ (by intro a; fin_cases a <;> simp [Rect.unit] <;> omega)) (fun i k => ld_eq _ _ _ _ (by intro a; fin_cases a <;> simp [Rect.unit] <;> omega))
  · exact tileq 0 (by omega) 1 x0 x1 x2 x3 (View.ld (Val := Elt Ideal) (S := S1x512x1024) (e' := .f32) x0 r0_0)
      (View.ld (Val := Elt Ideal) (S := S512x128) (e' := .f32) x2 r0_1) (View.ld (Val := Elt Ideal) (S := S512x128) (e' := .f32) x3 r0_1)
      (View.ld (Val := Elt Ideal) (S := S1024x2560) (e' := .bf16) x1 r0_5) z r l (by simpa using h1) (by simpa using h2)
      (fun i k => ld_eq _ _ _ _ (by intro a; fin_cases a <;> simp [Rect.unit] <;> omega)) (fun i k => ld_eq _ _ _ _ (by intro a; fin_cases a <;> simp [Rect.unit] <;> omega))
      (fun i k => ld_eq _ _ _ _ (by intro a; fin_cases a <;> simp [Rect.unit] <;> omega)) (fun i k => ld_eq _ _ _ _ (by intro a; fin_cases a <;> simp [Rect.unit] <;> omega))
  · exact tileq 0 (by omega) 0 x0 x1 x2 x3 (View.ld (Val := Elt Ideal) (S := S1x512x1024) (e' := .f32) x0 r0_0)
      (View.ld (Val := Elt Ideal) (S := S512x128) (e' := .f32) x2 r0_1) (View.ld (Val := Elt Ideal) (S := S512x128) (e' := .f32) x3 r0_1)
      (View.ld (Val := Elt Ideal) (S := S1024x2560) (e' := .bf16) x1 r0_2) z r l (by simpa using h1) (by simpa using h2)
      (fun i k => ld_eq _ _ _ _ (by intro a; fin_cases a <;> simp [Rect.unit] <;> omega)) (fun i k => ld_eq _ _ _ _ (by intro a; fin_cases a <;> simp [Rect.unit] <;> omega))
      (fun i k => ld_eq _ _ _ _ (by intro a; fin_cases a <;> simp [Rect.unit] <;> omega)) (fun i k => ld_eq _ _ _ _ (by intro a; fin_cases a <;> simp [Rect.unit] <;> omega))

theorem pointk (x0 : FVec Ideal S1x512x1024 .f32) (x1 : FVec Ideal S1024x2560 .bf16)
    (x2 x3 : FVec Ideal S512x128 .f32) (x4 x5 : FVec Ideal S1x512 .f32) (r l : Fin 512) : out0_7 (F := Ideal) x0 x1 x2 x3 x4 x5 (ix3 0 r l)
      = spin 512 (by omega) x0 x1 x2 x3 r l := by
  unfold_out out0_7
  canon_tiles z h
  · exact tilek 512 (by omega) 3 x0 x1 x2 x3 (View.ld (Val := Elt Ideal) (S := S1x512x1024) (e' := .f32) x0 r0_0)
      (View.ld (Val := Elt Ideal) (S := S512x128) (e' := .f32) x2 r0_1) (View.ld (Val := Elt Ideal) (S := S512x128) (e' := .f32) x3 r0_1)
      (View.ld (Val := Elt Ideal) (S := S1024x2560) (e' := .bf16) x1 r0_12) z r l (by simpa using h1) (by simpa using h2)
      (fun i k => ld_eq _ _ _ _ (by intro a; fin_cases a <;> simp [Rect.unit] <;> omega)) (fun i k => ld_eq _ _ _ _ (by intro a; fin_cases a <;> simp [Rect.unit] <;> omega))
      (fun i k => ld_eq _ _ _ _ (by intro a; fin_cases a <;> simp [Rect.unit] <;> omega)) (fun i k => ld_eq _ _ _ _ (by intro a; fin_cases a <;> simp [Rect.unit] <;> omega))
  · exact tilek 512 (by omega) 2 x0 x1 x2 x3 (View.ld (Val := Elt Ideal) (S := S1x512x1024) (e' := .f32) x0 r0_0)
      (View.ld (Val := Elt Ideal) (S := S512x128) (e' := .f32) x2 r0_1) (View.ld (Val := Elt Ideal) (S := S512x128) (e' := .f32) x3 r0_1)
      (View.ld (Val := Elt Ideal) (S := S1024x2560) (e' := .bf16) x1 r0_9) z r l (by simpa using h1) (by simpa using h2)
      (fun i k => ld_eq _ _ _ _ (by intro a; fin_cases a <;> simp [Rect.unit] <;> omega)) (fun i k => ld_eq _ _ _ _ (by intro a; fin_cases a <;> simp [Rect.unit] <;> omega))
      (fun i k => ld_eq _ _ _ _ (by intro a; fin_cases a <;> simp [Rect.unit] <;> omega)) (fun i k => ld_eq _ _ _ _ (by intro a; fin_cases a <;> simp [Rect.unit] <;> omega))
  · exact tilek 512 (by omega) 1 x0 x1 x2 x3 (View.ld (Val := Elt Ideal) (S := S1x512x1024) (e' := .f32) x0 r0_0)
      (View.ld (Val := Elt Ideal) (S := S512x128) (e' := .f32) x2 r0_1) (View.ld (Val := Elt Ideal) (S := S512x128) (e' := .f32) x3 r0_1)
      (View.ld (Val := Elt Ideal) (S := S1024x2560) (e' := .bf16) x1 r0_6) z r l (by simpa using h1) (by simpa using h2)
      (fun i k => ld_eq _ _ _ _ (by intro a; fin_cases a <;> simp [Rect.unit] <;> omega)) (fun i k => ld_eq _ _ _ _ (by intro a; fin_cases a <;> simp [Rect.unit] <;> omega))
      (fun i k => ld_eq _ _ _ _ (by intro a; fin_cases a <;> simp [Rect.unit] <;> omega)) (fun i k => ld_eq _ _ _ _ (by intro a; fin_cases a <;> simp [Rect.unit] <;> omega))
  · exact tilek 512 (by omega) 0 x0 x1 x2 x3 (View.ld (Val := Elt Ideal) (S := S1x512x1024) (e' := .f32) x0 r0_0)
      (View.ld (Val := Elt Ideal) (S := S512x128) (e' := .f32) x2 r0_1) (View.ld (Val := Elt Ideal) (S := S512x128) (e' := .f32) x3 r0_1)
      (View.ld (Val := Elt Ideal) (S := S1024x2560) (e' := .bf16) x1 r0_3) z r l (by simpa using h1) (by simpa using h2)
      (fun i k => ld_eq _ _ _ _ (by intro a; fin_cases a <;> simp [Rect.unit] <;> omega)) (fun i k => ld_eq _ _ _ _ (by intro a; fin_cases a <;> simp [Rect.unit] <;> omega))
      (fun i k => ld_eq _ _ _ _ (by intro a; fin_cases a <;> simp [Rect.unit] <;> omega)) (fun i k => ld_eq _ _ _ _ (by intro a; fin_cases a <;> simp [Rect.unit] <;> omega))

theorem pointv (x0 : FVec Ideal S1x512x1024 .f32) (x1 : FVec Ideal S1024x2560 .bf16)
    (x2 x3 : FVec Ideal S512x128 .f32) (x4 x5 : FVec Ideal S1x512 .f32) (r l : Fin 512) : out0_8 (F := Ideal) x0 x1 x2 x3 x4 x5 (ix3 0 r l)
      = part 1024 (by omega) (fun k => x0 (ix3 0 r k)) (fun k c => x1 (ix2 k c)) l := by
  unfold_out out0_8
  frame_out
  unfold part
  pointwise [k0_pay23, k0_pay22, k0_pay2]

theorem pointu (x0 : FVec Ideal S1x512x1024 .f32) (x1 : FVec Ideal S1024x2560 .bf16)
    (x2 x3 : FVec Ideal S512x128 .f32) (x4 x5 : FVec Ideal S1x512 .f32) (r l : Fin 512) : out0_9 (F := Ideal) x0 x1 x2 x3 x4 x5 (ix3 0 r l)
      = gelu (part 1536 (by omega) (fun k => x0 (ix3 0 r k)) (fun k c => x1 (ix2 k c)) l) := by
  unfold_out out0_9
  frame_out
  unfold part gelu
  pointwise [k0_pay24, k0_pay2]

theorem pointn (x0 : FVec Ideal S1x512x1024 .f32) (x1 : FVec Ideal S1024x2560 .bf16)
    (x2 x3 : FVec Ideal S512x128 .f32) (x4 x5 : FVec Ideal S1x512 .f32) (r l : Fin 512) : out0_10 (F := Ideal) x0 x1 x2 x3 x4 x5 (ix3 0 r l)
      = lnorm512 (fun c => gelu (part 2048 (by omega) (fun k => x0 (ix3 0 r k)) (fun k c => x1 (ix2 k c)) c)) (x4 (ix2 0 l)) (x5 (ix2 0 l)) l := by
  unfold_out out0_10
  frame_out
  unfold lnorm512 mean512 part gelu
  pointwise [k0_pay1, k0_pay25, k0_pay26, k0_pay27, k0_pay2]

end Cert.ProjAbKernelIdeal.Proj
-- ==== Proof.ProjAbRef.lean ====
/-
  The reference of the mixer projection call read at an index.
-/
module

public import proofs.«01_k».proof.Proof.Gen.ProjAbReferenceIdeal.Read
public import proofs.«01_k».proof.Proof.ProjSpec
public import proofs.«01_k».proof.Proof.WordSpec
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjAbReferenceIdeal.Proj

open Cert.ProjAbReferenceIdeal Cert.ProjAbReferenceIdeal.Gen Cert.ProjAbReferenceIdeal.Read Cert.ProjSpec Cert.WordSpec

variable (x0 : FVec Ideal S4x8192x1024 .f32) (x1 : FVec Ideal S1024x2560 .f32) (x2 x3 : FVec Ideal S512 .f32)
/-- A change of width keeps the number. -/
theorem trunc_id (z : EReal) : FloatOps.truncf (F := Ideal) (φ := .f32) .bf16 bitsLt_bf16_f32 z = z := rfl

theorem q_cos (s : Fin 8192) (j : Fin 32) : val_main_v21 (F := Ideal) (ix2 s j) = Ideal.cos (angle s.val j.val) := by
  unfold angle
  pointwise [val_main_v21, val_main_v20, val_main_v18, val_main_v16, val_main_v15, val_main_v6, val_main_v19,
    val_main_v17, val_main_v14, val_main_v13, val_main_cst_0, val_main_v12, val_main_v10, val_main_v9,
    val_main_v11, val_main_cst]

theorem q_sin (s : Fin 8192) (j : Fin 32) : val_main_v22 (F := Ideal) (ix2 s j) = Ideal.sin (angle s.val j.val) := by
  unfold angle
  pointwise [val_main_v22, val_main_v20, val_main_v18, val_main_v16, val_main_v15, val_main_v6, val_main_v19,
    val_main_v17, val_main_v14, val_main_v13, val_main_cst_0, val_main_v12, val_main_v10, val_main_v9,
    val_main_v11, val_main_cst]

theorem q_part (b : Fin 4) (s : Fin 8192) (l : Fin 512) :
    val_main_v1 (F := Ideal) x0 x1 (ix3 b s l) = part 0 (by omega) (fun k => x0 (ix3 b s k)) (fun k c => x1 (ix2 k c)) l := by
  unfold part
  pointwise [val_main_v1, val_main_v0]

theorem q_lo (b : Fin 4) (h : Fin 8) (s : Fin 8192) (j : Fin 32) :
    val_main_v31 (F := Ideal) x0 x1 (ix4 b h s j)
      = val_main_v1 (F := Ideal) x0 x1 (ix3 b s ⟨h.val * 64 + j.val, by omega⟩) * val_main_v21 (F := Ideal) (ix2 s j)
        - val_main_v1 (F := Ideal) x0 x1 (ix3 b s ⟨h.val * 64 + (32 + j.val), by omega⟩) * val_main_v22 (F := Ideal) (ix2 s j) := by
  pointwise [val_main_v31, val_main_v27, val_main_v23, val_main_v8, val_main_v7, val_main_v26, val_main_v25,
    val_main_v30, val_main_v24, val_main_v29, val_main_v28]

theorem q_hi (b : Fin 4) (h : Fin 8) (s : Fin 8192) (j : Fin 32) :
    val_main_v38 (F := Ideal) x0 x1 (ix4 b h s j)
      = val_main_v1 (F := Ideal) x0 x1 (ix3 b s ⟨h.val * 64 + (32 + j.val), by omega⟩) * val_main_v21 (F := Ideal) (ix2 s j)
        + val_main_v1 (F := Ideal) x0 x1 (ix3 b s ⟨h.val * 64 + j.val, by omega⟩) * val_main_v22 (F := Ideal) (ix2 s j) := by
  pointwise [val_main_v38, val_main_v34, val_main_v24, val_main_v8, val_main_v7, val_main_v33, val_main_v32,
    val_main_v37, val_main_v23, val_main_v36, val_main_v35]

theorem q_cat (b : Fin 4) (s : Fin 8192) (l : Fin 512) :
    val_main_v129 (F := Ideal) x0 x1 (ix3 b s l)
      = (if h : l.val % 64 < 32 then val_main_v31 (F := Ideal) x0 x1 (ix4 b ⟨l.val / 64, by omega⟩ s ⟨l.val % 64, h⟩)
        else val_main_v38 (F := Ideal) x0 x1 (ix4 b ⟨l.val / 64, by omega⟩ s ⟨l.val % 64 - 32, by omega⟩)) * Ideal.ofBits .f32 0x3E000000#32 := by
  pointwise [val_main_v129, val_main_v43, val_main_v42, val_main_v41, val_main_v39, val_main_v40, val_main_cst_1]

theorem q_read (b : Fin 4) (s : Fin 8192) (l : Fin 512) :
    val_main_v129 (F := Ideal) x0 x1 (ix3 b s l)
      = rotated (val_main_v21 (F := Ideal) (ix2 s ⟨l.val % 32, by omega⟩)) (val_main_v22 (F := Ideal) (ix2 s ⟨l.val % 32, by omega⟩))
          (fun c => val_main_v1 (F := Ideal) x0 x1 (ix3 b s c)) l * Ideal.ofBits .f32 0x3E000000#32 := by
  rw [rotated_split (fun c => val_main_v1 (F := Ideal) x0 x1 (ix3 b s c)) (fun j => val_main_v21 (F := Ideal) (ix2 s j))
    (fun j => val_main_v22 (F := Ideal) (ix2 s j)) l, q_cat]
  by_cases h : l.val % 64 < 32
  · have f : (⟨l.val / 64 * 64 + l.val % 64, by omega⟩ : Fin 512) = l := mk_eq _ l.isLt (by omega)
    rw [dif_pos h, dif_pos h, q_lo]
    simp only [f]
  · rw [dif_neg h, dif_neg h, q_hi]

theorem q_apply (b : Fin 4) (s : Fin 8192) (l : Fin 512) :
    val_main_v129 (F := Ideal) x0 x1 (ix3 b s l)
      = rotated (Ideal.cos (angle s.val (l.val % 32))) (Ideal.sin (angle s.val (l.val % 32))) (part 0 (by omega) (fun k => x0 (ix3 b s k)) (fun k c => x1 (ix2 k c))) l * Ideal.ofBits .f32 0x3E000000#32 := by
  rw [q_read, q_cos, q_sin]
  simp only [q_part]

theorem k_cos (s : Fin 8192) (j : Fin 32) : val_main_v58 (F := Ideal) (ix2 s j) = Ideal.cos (angle s.val j.val) := by
  unfold angle
  pointwise [val_main_v58, val_main_v57, val_main_v55, val_main_v53, val_main_v52, val_main_v6, val_main_v56,
    val_main_v54, val_main_v51, val_main_v50, val_main_cst_3, val_main_v49, val_main_v47, val_main_v46,
    val_main_v48, val_main_cst_2]

theorem k_sin (s : Fin 8192) (j : Fin 32) : val_main_v59 (F := Ideal) (ix2 s j) = Ideal.sin (angle s.val j.val) := by
  unfold angle
  pointwise [val_main_v59, val_main_v57, val_main_v55, val_main_v53, val_main_v52, val_main_v6, val_main_v56,
    val_main_v54, val_main_v51, val_main_v50, val_main_cst_3, val_main_v49, val_main_v47, val_main_v46,
    val_main_v48, val_main_cst_2]

theorem k_part (b : Fin 4) (s : Fin 8192) (l : Fin 512) :
    val_main_v2 (F := Ideal) x0 x1 (ix3 b s l) = part 512 (by omega) (fun k => x0 (ix3 b s k)) (fun k c => x1 (ix2 k c)) l := by
  unfold part
  pointwise [val_main_v2, val_main_v0]

theorem k_lo (b : Fin 4) (h : Fin 8) (s : Fin 8192) (j : Fin 32) :
    val_main_v68 (F := Ideal) x0 x1 (ix4 b h s j)
      = val_main_v2 (F := Ideal) x0 x1 (ix3 b s ⟨h.val * 64 + j.val, by omega⟩) * val_main_v58 (F := Ideal) (ix2 s j)
        - val_main_v2 (F := Ideal) x0 x1 (ix3 b s ⟨h.val * 64 + (32 + j.val), by omega⟩) * val_main_v59 (F := Ideal) (ix2 s j) := by
  pointwise [val_main_v68, val_main_v64, val_main_v60, val_main_v45, val_main_v44, val_main_v63, val_main_v62,
    val_main_v67, val_main_v61, val_main_v66, val_main_v65]

theorem k_hi (b : Fin 4) (h : Fin 8) (s : Fin 8192) (j : Fin 32) :
    val_main_v75 (F := Ideal) x0 x1 (ix4 b h s j)
      = val_main_v2 (F := Ideal) x0 x1 (ix3 b s ⟨h.val * 64 + (32 + j.val), by omega⟩) * val_main_v58 (F := Ideal) (ix2 s j)
        + val_main_v2 (F := Ideal) x0 x1 (ix3 b s ⟨h.val * 64 + j.val, by omega⟩) * val_main_v59 (F := Ideal) (ix2 s j) := by
  pointwise [val_main_v75, val_main_v71, val_main_v61, val_main_v45, val_main_v44, val_main_v70, val_main_v69,
    val_main_v74, val_main_v60, val_main_v73, val_main_v72]

theorem k_halves (b : Fin 4) (h : Fin 8) (s : Fin 8192) (d : Fin 64) :
    val_main_v76 (F := Ideal) x0 x1 (ix4 b h s d)
      = if e : d.val < 32 then val_main_v68 (F := Ideal) x0 x1 (ix4 b h s ⟨d.val, e⟩)
        else val_main_v75 (F := Ideal) x0 x1 (ix4 b h s ⟨d.val - 32, by omega⟩) := by
  have z : val_main_v76 (F := Ideal) x0 x1 (ix4 b h s d) + 0 = (if e : d.val < 32 then val_main_v68 (F := Ideal) x0 x1 (ix4 b h s ⟨d.val, e⟩)
        else val_main_v75 (F := Ideal) x0 x1 (ix4 b h s ⟨d.val - 32, by omega⟩)) + (0 : EReal) := by
    obtain ⟨L, hL⟩ : ∃ L, L = val_main_v68 (F := Ideal) x0 x1 := ⟨_, rfl⟩
    obtain ⟨H, hH⟩ : ∃ H, H = val_main_v75 (F := Ideal) x0 x1 := ⟨_, rfl⟩
    unfold val_main_v76
    rw [← hL, ← hH]
    clear hL hH
    pointwise []
  simpa only [add_zero] using z

theorem k_place (b : Fin 4) (s : Fin 8192) (l : Fin 512) :
    val_main_v130 (F := Ideal) x0 x1 (ix3 b s l) = val_main_v76 (F := Ideal) x0 x1 (ix4 b ⟨l.val / 64, by omega⟩ s ⟨l.val % 64, by omega⟩) := by
  have e : idx_main_v77 (idx_main_v78 (ix3 b s l)) = ix4 b ⟨l.val / 64, by omega⟩ s ⟨l.val % 64, by omega⟩ := by
    blk_ext
  rw [val_main_v130_apply, trunc_id, val_main_v78_apply, val_main_v77_apply, e]

theorem k_cat (b : Fin 4) (s : Fin 8192) (l : Fin 512) :
    val_main_v130 (F := Ideal) x0 x1 (ix3 b s l)
      = (if h : l.val % 64 < 32 then val_main_v68 (F := Ideal) x0 x1 (ix4 b ⟨l.val / 64, by omega⟩ s ⟨l.val % 64, h⟩)
        else val_main_v75 (F := Ideal) x0 x1 (ix4 b ⟨l.val / 64, by omega⟩ s ⟨l.val % 64 - 32, by omega⟩)) := by
  rw [k_place, k_halves]

theorem k_read (b : Fin 4) (s : Fin 8192) (l : Fin 512) :
    val_main_v130 (F := Ideal) x0 x1 (ix3 b s l)
      = rotated (val_main_v58 (F := Ideal) (ix2 s ⟨l.val % 32, by omega⟩)) (val_main_v59 (F := Ideal) (ix2 s ⟨l.val % 32, by omega⟩))
          (fun c => val_main_v2 (F := Ideal) x0 x1 (ix3 b s c)) l := by
  rw [rotated_split (fun c => val_main_v2 (F := Ideal) x0 x1 (ix3 b s c)) (fun j => val_main_v58 (F := Ideal) (ix2 s j))
    (fun j => val_main_v59 (F := Ideal) (ix2 s j)) l, k_cat]
  by_cases h : l.val % 64 < 32
  · have f : (⟨l.val / 64 * 64 + l.val % 64, by omega⟩ : Fin 512) = l := mk_eq _ l.isLt (by omega)
    rw [dif_pos h, dif_pos h, k_lo]
    simp only [f]
  · rw [dif_neg h, dif_neg h, k_hi]

theorem k_apply (b : Fin 4) (s : Fin 8192) (l : Fin 512) :
    val_main_v130 (F := Ideal) x0 x1 (ix3 b s l)
      = rotated (Ideal.cos (angle s.val (l.val % 32))) (Ideal.sin (angle s.val (l.val % 32))) (part 512 (by omega) (fun k => x0 (ix3 b s k)) (fun k c => x1 (ix2 k c))) l := by
  rw [k_read, k_cos, k_sin]
  simp only [k_part]

theorem v_apply (b : Fin 4) (s : Fin 8192) (l : Fin 512) :
    val_main_v131 (F := Ideal) x0 x1 (ix3 b s l) = part 1024 (by omega) (fun k => x0 (ix3 b s k)) (fun k c => x1 (ix2 k c)) l := by
  unfold part
  pointwise [val_main_v131, val_main_v3, val_main_v0]

theorem u_apply (b : Fin 4) (s : Fin 8192) (l : Fin 512) :
    val_main_v132 (F := Ideal) x0 x1 (ix3 b s l) = gelu (part 1536 (by omega) (fun k => x0 (ix3 b s k)) (fun k c => x1 (ix2 k c)) l) := by
  rw [gelu_eq]
  unfold part
  pointwise [val_main_v132, val_main_v128, val_main_v127, val_main_v126, val_main_cst_16, val_main_v125, val_main_v124,
    val_main_cst_15, val_main_v123, val_main_v122, val_main_v121, val_main_cst_14, val_main_v120,
    val_main_v119, val_main_v118, val_main_cst_13, val_main_v117, val_main_v116, val_main_v4, val_main_v0]

theorem act_apply (b : Fin 4) (s : Fin 8192) (l : Fin 512) :
    val_main_v91 (F := Ideal) x0 x1 (ix3 b s l) = gelu (part 2048 (by omega) (fun k => x0 (ix3 b s k)) (fun k c => x1 (ix2 k c)) l) := by
  rw [gelu_eq]
  unfold part
  pointwise [val_main_v91, val_main_v90, val_main_v89, val_main_cst_7, val_main_v88, val_main_v87, val_main_cst_6,
    val_main_v86, val_main_v85, val_main_v84, val_main_cst_5, val_main_v83, val_main_v82, val_main_v81,
    val_main_cst_4, val_main_v80, val_main_v79, val_main_v5, val_main_v0]

theorem mean_apply (b : Fin 4) (s : Fin 8192) :
    val_main_v95 (F := Ideal) x0 x1 (ix3 b s 0) = mean512 fun c => val_main_v91 (F := Ideal) x0 x1 (ix3 b s c) := by
  unfold mean512
  pointwise [val_main_v95, val_main_v94, val_main_v93, val_main_v92, val_main_cst_8, val_main_cst_9]

theorem n_apply (b : Fin 4) (s : Fin 8192) (l : Fin 512) :
    val_main_v133 (F := Ideal) x0 x1 x2 x3 (ix3 b s l)
      = lnorm512 (fun c => gelu (part 2048 (by omega) (fun k => x0 (ix3 b s k)) (fun k c => x1 (ix2 k c)) c)) (x2 (ix1 l)) (x3 (ix1 l)) l := by
  rw [show (fun c => gelu (part 2048 (by omega) (fun k => x0 (ix3 b s k)) (fun k c => x1 (ix2 k c)) c)) = fun c => val_main_v91 (F := Ideal) x0 x1 (ix3 b s c)
    from funext fun c => (act_apply x0 x1 b s c).symm]
  rw [lnorm512, ← mean_apply]
  unfold mean512
  pointwise [val_main_v133, val_main_v115, val_main_v114, val_main_v113, val_main_v112, val_main_v111, val_main_v110, val_main_v109,
    val_main_v108, val_main_v107, val_main_v106, val_main_v105, val_main_cst_12, val_main_v104, val_main_v103,
    val_main_v102, val_main_v101, val_main_cst_11, val_main_v100, val_main_v99, val_main_cst_10, val_main_v98,
    val_main_v97, val_main_v96]

end Cert.ProjAbReferenceIdeal.Proj
-- ==== Proof.ProjAbTie.lean ====
/-
  The mixer projection call: the kernel's result arrays after its run are the reference's, element by element.
-/
module

public import proofs.«01_k».proof.Proof.ProjAbBlock
public import proofs.«01_k».proof.Proof.ProjAbRef

@[expose] public section

set_option maxRecDepth 16384

noncomputable section

open Idealize.ShloMosaic Idealize.ShloMosaic.TcCoe Idealize.SL.Sem
open Idealize.ShloMosaic.Pipeline (Dat)

namespace Cert.ProjAbKernelIdeal.Proj

open Cert.ProjAbKernelIdeal Cert.ProjAbKernelIdeal.Gen Cert.ProjSpec

variable (m : (ℓ : Loc nD τ sig) → Buf (Elt Ideal) ℓ)

/-- The block index of every window at every point. -/
theorem idx : ∀ t : Fin cfg0.N, win0_0.index t = ![t.val / 16, t.val % 16, 0] ∧ win0_1.index t = ![0, 0] ∧ win0_2.index t = ![t.val % 16, 0] ∧ win0_3.index t = ![t.val % 16, 0] ∧ win0_4.index t = ![0, 0] ∧ win0_5.index t = ![0, 0] ∧ win0_6.index t = ![t.val / 16, t.val % 16, 0] ∧ win0_7.index t = ![t.val / 16, t.val % 16, 0] ∧ win0_8.index t = ![t.val / 16, t.val % 16, 0] ∧ win0_9.index t = ![t.val / 16, t.val % 16, 0] ∧ win0_10.index t = ![t.val / 16, t.val % 16, 0] ∧ t.val < 64 :=
  (by decide +kernel : ∀ t : Fin grid0.N, _)

theorem read0 (c : Dev nD) (t : Fin cfg0.N) (r : Fin 512) (l : Fin 1024) (p : Fin 4) (q : Fin 8192)
    (hp : p.val = t.val / 16) (hq : q.val = t.val % 16 * 512 + r.val) :
    (iblk m c 0 t : FVec Ideal S1x512x1024 .f32) (ix3 0 r l) = (m ((c : Thread nD τ).loc main_arg0) : FVec Ideal S4x8192x1024 .f32) (ix3 p q l) := by
  blk_ext! [iblk, V, idx t]

theorem read1 (c : Dev nD) (t : Fin cfg0.N) (k : Fin 1024) (l : Fin 2560) :
    (iblk m c 1 t : FVec Ideal S1024x2560 .bf16) (ix2 k l) = (m ((c : Thread nD τ).loc main_arg1) : FVec Ideal S1024x2560 .f32) (ix2 k l) := by
  blk_ext! [iblk, V, idx t]

theorem entry2 (c : Dev nD) (s : Fin 8192) (j : Fin 128) :
    (V m c main_v17 : FVec Ideal S8192x128 .f32) (ix2 s j) = Ideal.cos (angle s.val (j.val % 32)) := by
  unfold angle
  entry_read
  pointwise

theorem read2 (c : Dev nD) (t : Fin cfg0.N) (r : Fin 512) (j : Fin 128) (s i : ℕ) (hs : s = t.val % 16 * 512 + r.val) (hi : i = j.val % 32) :
    (iblk m c 2 t : FVec Ideal S512x128 .f32) (ix2 r j) = Ideal.cos (angle s i) := by
  have ht : t.val < 64 := (idx t).2.2.2.2.2.2.2.2.2.2.2
  have e : (iblk m c 2 t : FVec Ideal S512x128 .f32) (ix2 r j) = (V m c main_v17 : FVec Ideal S8192x128 .f32) (ix2 ⟨s, by omega⟩ j) := by
    blk_ext [iblk, idx t]
  rw [e, entry2, hi]

theorem entry3 (c : Dev nD) (s : Fin 8192) (j : Fin 128) :
    (V m c main_v20 : FVec Ideal S8192x128 .f32) (ix2 s j) = Ideal.sin (angle s.val (j.val % 32)) := by
  unfold angle
  entry_read
  pointwise

theorem read3 (c : Dev nD) (t : Fin cfg0.N) (r : Fin 512) (j : Fin 128) (s i : ℕ) (hs : s = t.val % 16 * 512 + r.val) (hi : i = j.val % 32) :
    (iblk m c 3 t : FVec Ideal S512x128 .f32) (ix2 r j) = Ideal.sin (angle s i) := by
  have ht : t.val < 64 := (idx t).2.2.2.2.2.2.2.2.2.2.2
  have e : (iblk m c 3 t : FVec Ideal S512x128 .f32) (ix2 r j) = (V m c main_v20 : FVec Ideal S8192x128 .f32) (ix2 ⟨s, by omega⟩ j) := by
    blk_ext [iblk, idx t]
  rw [e, entry3, hi]

theorem read4 (c : Dev nD) (t : Fin cfg0.N) (l : Fin 512) :
    (iblk m c 4 t : FVec Ideal S1x512 .f32) (ix2 0 l) = (m ((c : Thread nD τ).loc main_arg2) : FVec Ideal S512 .f32) (ix1 l) := by
  blk_ext! [iblk, V, idx t]

theorem read5 (c : Dev nD) (t : Fin cfg0.N) (l : Fin 512) :
    (iblk m c 5 t : FVec Ideal S1x512 .f32) (ix2 0 l) = (m ((c : Thread nD τ).loc main_arg3) : FVec Ideal S512 .f32) (ix1 l) := by
  blk_ext! [iblk, V, idx t]

/-- A row's product at a point is the reference's at the row's place. -/
theorem part_eq (c : Dev nD) (t : Fin cfg0.N) (r : Fin 512) (p : Fin 4) (q : Fin 8192)
    (hp : p.val = t.val / 16) (hq : q.val = t.val % 16 * 512 + r.val) (o : ℕ) (ho : o ≤ 2048) :
    part o ho (fun k => (iblk m c 0 t : FVec Ideal S1x512x1024 .f32) (ix3 0 r k)) (fun k l => (iblk m c 1 t : FVec Ideal S1024x2560 .bf16) (ix2 k l))
      = part o ho (fun k => (m ((c : Thread nD τ).loc main_arg0) : FVec Ideal S4x8192x1024 .f32) (ix3 p q k))
          (fun k l => (m ((c : Thread nD τ).loc main_arg1) : FVec Ideal S1024x2560 .f32) (ix2 k l)) := by
  congr 1
  · funext k; exact read0 m c t r k p q hp hq
  · funext k l; exact read1 m c t k l

/-- A result array: the reference's value at the kernel's arguments. -/
abbrev result_q (c : Dev nD) : FVec Ideal S4x8192x512 .bf16 :=
  Cert.ProjAbReferenceIdeal.Read.val_main_v129 (F := Ideal) (m ((c : Thread nD τ).loc main_arg0)) (m ((c : Thread nD τ).loc main_arg1))

theorem final_q (c : Dev nD) : (dats m 0 c).arrAt 6 (cfgs 0).N = result_q m c := by
  refine (dats m 0 c).arrAt_eq_of_covers 6 _ (by decide +kernel) fun t _ y => ?_
  blk_simp
  rw [after0_6]
  obtain ⟨y0, y1, rfl⟩ : ∃ a b : Fin 512, y = (ix3 0 a b : S1x512x512.Idx) := ⟨y 1, y 2, by blk_ext⟩
  refine (pointq _ _ _ _ _ _ y0 y1).trans ?_
  have ht : t.val < 64 := (idx t).2.2.2.2.2.2.2.2.2.2.2
  have e : ((View.whole main_v24_0).slice (win0_6.rect t)).emb (ix3 0 y0 y1)
      = (ix3 ⟨t.val / 16, by omega⟩ ⟨t.val % 16 * 512 + y0.val, by omega⟩ y1 : S4x8192x512.Idx) := by
    blk_ext [idx t]
  rw [e]
  refine Eq.trans ?_ (Cert.ProjAbReferenceIdeal.Proj.q_apply _ _ _ _ _).symm
  rw [spin, part_eq m c t y0 ⟨t.val / 16, by omega⟩ ⟨t.val % 16 * 512 + y0.val, by omega⟩ rfl rfl,
    read2 m c t y0 _ (t.val % 16 * 512 + y0.val) (y1.val % 32) rfl (by dsimp only; omega),
    read3 m c t y0 _ (t.val % 16 * 512 + y0.val) (y1.val % 32) rfl (by dsimp only; omega)]

/-- A result array: the reference's value at the kernel's arguments. -/
abbrev result_k (c : Dev nD) : FVec Ideal S4x8192x512 .bf16 :=
  Cert.ProjAbReferenceIdeal.Read.val_main_v130 (F := Ideal) (m ((c : Thread nD τ).loc main_arg0)) (m ((c : Thread nD τ).loc main_arg1))

theorem final_k (c : Dev nD) : (dats m 0 c).arrAt 7 (cfgs 0).N = result_k m c := by
  refine (dats m 0 c).arrAt_eq_of_covers 7 _ (by decide +kernel) fun t _ y => ?_
  blk_simp
  rw [after0_7]
  obtain ⟨y0, y1, rfl⟩ : ∃ a b : Fin 512, y = (ix3 0 a b : S1x512x512.Idx) := ⟨y 1, y 2, by blk_ext⟩
  refine (pointk _ _ _ _ _ _ y0 y1).trans ?_
  have ht : t.val < 64 := (idx t).2.2.2.2.2.2.2.2.2.2.2
  have e : ((View.whole main_v24_1).slice (win0_7.rect t)).emb (ix3 0 y0 y1)
      = (ix3 ⟨t.val / 16, by omega⟩ ⟨t.val % 16 * 512 + y0.val, by omega⟩ y1 : S4x8192x512.Idx) := by
    blk_ext [idx t]
  rw [e]
  refine Eq.trans ?_ (Cert.ProjAbReferenceIdeal.Proj.k_apply _ _ _ _ _).symm
  rw [spin, part_eq m c t y0 ⟨t.val / 16, by omega⟩ ⟨t.val % 16 * 512 + y0.val, by omega⟩ rfl rfl,
    read2 m c t y0 _ (t.val % 16 * 512 + y0.val) (y1.val % 32) rfl (by dsimp only; omega),
    read3 m c t y0 _ (t.val % 16 * 512 + y0.val) (y1.val % 32) rfl (by dsimp only; omega)]

/-- A result array: the reference's value at the kernel's arguments. -/
abbrev result_v (c : Dev nD) : FVec Ideal S4x8192x512 .bf16 :=
  Cert.ProjAbReferenceIdeal.Read.val_main_v131 (F := Ideal) (m ((c : Thread nD τ).loc main_arg0)) (m ((c : Thread nD τ).loc main_arg1))

theorem final_v (c : Dev nD) : (dats m 0 c).arrAt 8 (cfgs 0).N = result_v m c := by
  refine (dats m 0 c).arrAt_eq_of_covers 8 _ (by decide +kernel) fun t _ y => ?_
  blk_simp
  rw [after0_8]
  obtain ⟨y0, y1, rfl⟩ : ∃ a b : Fin 512, y = (ix3 0 a b : S1x512x512.Idx) := ⟨y 1, y 2, by blk_ext⟩
  refine (pointv _ _ _ _ _ _ y0 y1).trans ?_
  have ht : t.val < 64 := (idx t).2.2.2.2.2.2.2.2.2.2.2
  have e : ((View.whole main_v24_2).slice (win0_8.rect t)).emb (ix3 0 y0 y1)
      = (ix3 ⟨t.val / 16, by omega⟩ ⟨t.val % 16 * 512 + y0.val, by omega⟩ y1 : S4x8192x512.Idx) := by
    blk_ext [idx t]
  rw [e]
  refine Eq.trans ?_ (Cert.ProjAbReferenceIdeal.Proj.v_apply _ _ _ _ _).symm
  rw [part_eq m c t y0 ⟨t.val / 16, by omega⟩ ⟨t.val % 16 * 512 + y0.val, by omega⟩ rfl rfl]

/-- A result array: the reference's value at the kernel's arguments. -/
abbrev result_u (c : Dev nD) : FVec Ideal S4x8192x512 .bf16 :=
  Cert.ProjAbReferenceIdeal.Read.val_main_v132 (F := Ideal) (m ((c : Thread nD τ).loc main_arg0)) (m ((c : Thread nD τ).loc main_arg1))

theorem final_u (c : Dev nD) : (dats m 0 c).arrAt 9 (cfgs 0).N = result_u m c := by
  refine (dats m 0 c).arrAt_eq_of_covers 9 _ (by decide +kernel) fun t _ y => ?_
  blk_simp
  rw [after0_9]
  obtain ⟨y0, y1, rfl⟩ : ∃ a b : Fin 512, y = (ix3 0 a b : S1x512x512.Idx) := ⟨y 1, y 2, by blk_ext⟩
  refine (pointu _ _ _ _ _ _ y0 y1).trans ?_
  have ht : t.val < 64 := (idx t).2.2.2.2.2.2.2.2.2.2.2
  have e : ((View.whole main_v24_3).slice (win0_9.rect t)).emb (ix3 0 y0 y1)
      = (ix3 ⟨t.val / 16, by omega⟩ ⟨t.val % 16 * 512 + y0.val, by omega⟩ y1 : S4x8192x512.Idx) := by
    blk_ext [idx t]
  rw [e]
  refine Eq.trans ?_ (Cert.ProjAbReferenceIdeal.Proj.u_apply _ _ _ _ _).symm
  rw [part_eq m c t y0 ⟨t.val / 16, by omega⟩ ⟨t.val % 16 * 512 + y0.val, by omega⟩ rfl rfl]

/-- A result array: the reference's value at the kernel's arguments. -/
abbrev result_n (c : Dev nD) : FVec Ideal S4x8192x512 .bf16 :=
  Cert.ProjAbReferenceIdeal.Read.val_main_v133 (F := Ideal) (m ((c : Thread nD τ).loc main_arg0)) (m ((c : Thread nD τ).loc main_arg1)) (m ((c : Thread nD τ).loc main_arg2)) (m ((c : Thread nD τ).loc main_arg3))

theorem final_n (c : Dev nD) : (dats m 0 c).arrAt 10 (cfgs 0).N = result_n m c := by
  refine (dats m 0 c).arrAt_eq_of_covers 10 _ (by decide +kernel) fun t _ y => ?_
  blk_simp
  rw [after0_10]
  obtain ⟨y0, y1, rfl⟩ : ∃ a b : Fin 512, y = (ix3 0 a b : S1x512x512.Idx) := ⟨y 1, y 2, by blk_ext⟩
  refine (pointn _ _ _ _ _ _ y0 y1).trans ?_
  have ht : t.val < 64 := (idx t).2.2.2.2.2.2.2.2.2.2.2
  have e : ((View.whole main_v24_4).slice (win0_10.rect t)).emb (ix3 0 y0 y1)
      = (ix3 ⟨t.val / 16, by omega⟩ ⟨t.val % 16 * 512 + y0.val, by omega⟩ y1 : S4x8192x512.Idx) := by
    blk_ext [idx t]
  rw [e]
  refine Eq.trans ?_ (Cert.ProjAbReferenceIdeal.Proj.n_apply _ _ _ _ _ _ _).symm
  rw [part_eq m c t y0 ⟨t.val / 16, by omega⟩ ⟨t.val % 16 * 512 + y0.val, by omega⟩ rfl rfl, read4, read5]

end Cert.ProjAbKernelIdeal.Proj
-- ==== Proof.ProjAbClaims.lean ====
/-
  The claims about the mixer projection call, assembled.
-/
module

public import proofs.«01_k».proof.Defs
public import proofs.«01_k».proof.Proof.Gen.ProjAbKernel.Frame
public import proofs.«01_k».proof.Proof.ProjAbTie

@[expose] public section

set_option maxRecDepth 16384

noncomputable section

open Idealize.ShloMosaic Idealize.ShloMosaic.TcCoe Idealize.SL.Sem
open Idealize.ShloMosaic.Pipeline (Dat)

namespace Cert.ProjAbClaims

theorem frame_reference : Cert.quiescent_ProjAbReferenceIdeal (hProjAbReferenceIdeal := Cert.ProjAbReferenceIdeal.Gen.facts) :=
  fun m g _ => (θ_run _ _ _).mono (fun r h => ⟨fun c => (h c).2.2.2.2.2, funext fun x => by nomatch x⟩) (Cert.ProjAbReferenceIdeal.Value.run m g)

theorem value : Cert.algebraic_ProjAbKernelIdeal_ProjAbReferenceIdeal (hProjAbKernelIdeal := Cert.ProjAbKernelIdeal.Gen.facts)
    (hProjAbReferenceIdeal := Cert.ProjAbReferenceIdeal.Gen.facts) :=
  fun m g m' g' _ hag => ⟨fun c => Cert.ProjAbKernelIdeal.Proj.result_q m c, fun c => Cert.ProjAbKernelIdeal.Proj.result_k m c, fun c => Cert.ProjAbKernelIdeal.Proj.result_v m c, fun c => Cert.ProjAbKernelIdeal.Proj.result_u m c, fun c => Cert.ProjAbKernelIdeal.Proj.result_n m c,
    (θ_run _ _ _).mono (fun _ h c => ⟨(h c).1.trans (Cert.ProjAbKernelIdeal.Proj.final_q m c), (h c).2.1.trans (Cert.ProjAbKernelIdeal.Proj.final_k m c),
        (h c).2.2.1.trans (Cert.ProjAbKernelIdeal.Proj.final_v m c), (h c).2.2.2.1.trans (Cert.ProjAbKernelIdeal.Proj.final_u m c),
        (h c).2.2.2.2.1.trans (Cert.ProjAbKernelIdeal.Proj.final_n m c), (h c).2.2.2.2.2⟩)
      (Cert.ProjAbKernelIdeal.Value.run_blocks m g),
    (θ_run _ _ _).mono (fun _ h c => by
        obtain ⟨h0, h1, h2, h3⟩ := hag c
        refine ⟨((h c).1.trans (Cert.ProjAbReferenceIdeal.Read.val_main_v129_eq _ _)).trans ?_,
          ((h c).2.1.trans (Cert.ProjAbReferenceIdeal.Read.val_main_v130_eq _ _)).trans ?_,
          ((h c).2.2.1.trans (Cert.ProjAbReferenceIdeal.Read.val_main_v131_eq _ _)).trans ?_,
          ((h c).2.2.2.1.trans (Cert.ProjAbReferenceIdeal.Read.val_main_v132_eq _ _)).trans ?_,
          ((h c).2.2.2.2.1.trans (Cert.ProjAbReferenceIdeal.Read.val_main_v133_eq _ _)).trans ?_, (h c).2.2.2.2.2⟩
        · rw [h0, h1]
        · rw [h0, h1]
        · rw [h0, h1]
        · rw [h0, h1]
        · rw [h0, h1, h2, h3])
      (Cert.ProjAbReferenceIdeal.Value.run m' g')⟩

end Cert.ProjAbClaims
-- ==== Proof.ProjCSpec.lean ====
/-
  The causal convolution of four taps, the silu and the gate rows of the second projection call, as plain functions on the extended reals.
-/
module

public import proofs.«01_k».proof.Proof.FfnSpec

@[expose] public section

set_option maxRecDepth 16384

noncomputable section

open Idealize.ShloMosaic Idealize.ShloMosaic.TcCoe Idealize.SL.Sem
open Idealize.ShloMosaic.Pipeline (Dat)

namespace Cert.ProjCSpec

/-- A row's product with one column of a matrix. -/
def prod (x : Fin 1024 → EReal) (w : Fin 1024 → Fin 3080 → EReal) (j : Fin 3080) : EReal := ∑ k, x k * w k j

/-- The four taps over four neighbouring rows, with the offset. -/
def conv (b : EReal) (w p : Fin 4 → EReal) : EReal := w 0 * p 0 + w 1 * p 1 + w 2 * p 2 + w 3 * p 3 + b

/-- The same sum in the order that begins with the offset and the latest row. -/
theorem conv_eq (b w0 w1 w2 w3 p0 p1 p2 p3 : EReal) :
    b + w3 * p3 + w2 * p2 + w1 * p1 + w0 * p0 = conv b ![w0, w1, w2, w3] ![p0, p1, p2, p3] := by
  show b + w3 * p3 + w2 * p2 + w1 * p1 + w0 * p0 = w0 * p0 + w1 * p1 + w2 * p2 + w3 * p3 + b
  ac_rfl

/-- The zero word read as a number. -/
theorem zero_word : FloatOps.sitofp (F := Ideal) .f32 0#32 = 0 := by
  show (((0#32 : BitVec 32).toInt : ℝ) : EReal) = 0
  simp

def silu (z : EReal) : EReal := z * Ideal.logistic z

/-- Row `s + j - 3` of a column, `0` before the first row. -/
def earlier (P : Fin 8192 → EReal) (s : Fin 8192) (j : Fin 4) : EReal :=
  if h : 3 ≤ s.val + j.val then P ⟨s.val + j.val - 3, by omega⟩ else 0

/-- One lane after the convolution and the silu. -/
def tap (P : Fin 8192 → EReal) (b : EReal) (w : Fin 4 → EReal) (s : Fin 8192) : EReal := silu (conv b w (earlier P s))

/-- The two gates' offsets side by side. -/
def offset (bi bf : Fin 4 → EReal) (j : Fin 8) : EReal :=
  if h : j.val < 4 then bi ⟨j.val, h⟩ else bf ⟨j.val - 4, by omega⟩

/-- One gate row. -/
def gate (x : Fin 1024 → EReal) (w : Fin 1024 → Fin 3080 → EReal) (bi bf : Fin 4 → EReal) (j : Fin 8) : EReal :=
  prod x w ⟨3072 + j.val, by omega⟩ + offset bi bf j

end Cert.ProjCSpec
-- ==== Proof.ProjCBlock.lean ====
/-
  One block of the second projection call: the convolution over the rows carried from the block before, and the plain products.
-/
module

public import proofs.«01_k».proof.Proof.Gen.ProjCKernelIdeal.Value
public import proofs.«01_k».proof.Proof.ProjCSpec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjCKernelIdeal.Proj

open Cert.ProjCKernelIdeal Cert.ProjCKernelIdeal.Gen Cert.ProjCSpec

section Payloads

variable (X0 : FVec Ideal S1x512x1024 .f32) (X1 : FVec Ideal S1024x1024 .bf16) (T : FVec Ideal S8x1024 .f32)

theorem row_apply (r : Fin 512) (l : Fin 1024) :
    k0_pay5 (F := Ideal) X0 X1 (ix2 r l) = ∑ k : Fin 1024, X0 (ix3 0 r k) * X1 (ix2 k l) := by
  pointwise [k0_pay5, k0_pay3]

theorem tail_apply (i : Fin 8) (l : Fin 1024) :
    k0_pay7 (F := Ideal) X0 X1 (ix2 i l) = ∑ k : Fin 1024, X0 (ix3 0 ⟨504 + i.val, by omega⟩ k) * X1 (ix2 k l) := by
  pointwise [k0_pay7, k0_pay5, k0_pay3]

theorem none_apply (i : Fin 8) (l : Fin 1024) : k0_pay4 (F := Ideal) (ix2 i l) = 0 := by
  pointwise [k0_pay4]

/-- The carried rows followed by the block's own. -/
theorem ext_apply (i : Fin 520) (l : Fin 1024) :
    k0_pay6 (F := Ideal) X0 X1 T (ix2 i l)
      = if h : i.val < 8 then T (ix2 ⟨i.val, h⟩ l) else k0_pay5 (F := Ideal) X0 X1 (ix2 ⟨i.val - 8, by omega⟩ l) := by
  have z : k0_pay6 (F := Ideal) X0 X1 T (ix2 i l) + 0
      = (if h : i.val < 8 then T (ix2 ⟨i.val, h⟩ l) else k0_pay5 (F := Ideal) X0 X1 (ix2 ⟨i.val - 8, by omega⟩ l)) + (0 : EReal) := by
    obtain ⟨Q, hQ⟩ : ∃ Q, Q = k0_pay5 (F := Ideal) X0 X1 := ⟨_, rfl⟩
    unfold k0_pay6
    rw [← hQ]
    clear hQ
    pointwise []
  simpa only [add_zero] using z

/-- One lane of a block: the taps on the row and the three before it. -/
def blockTap (b w3 w2 w1 w0 : FVec Ideal S1x1024 .f32) (r : Fin 512) (l : Fin 1024) : EReal :=
  silu (conv (b (ix2 0 l)) ![w0 (ix2 0 l), w1 (ix2 0 l), w2 (ix2 0 l), w3 (ix2 0 l)]
    ![k0_pay6 (F := Ideal) X0 X1 T (ix2 ⟨5 + r.val, by omega⟩ l), k0_pay6 (F := Ideal) X0 X1 T (ix2 ⟨6 + r.val, by omega⟩ l),
      k0_pay6 (F := Ideal) X0 X1 T (ix2 ⟨7 + r.val, by omega⟩ l), k0_pay5 (F := Ideal) X0 X1 (ix2 r l)])

theorem raw (b w3 w2 w1 w0 : FVec Ideal S1x1024 .f32) (r : Fin 512) (l : Fin 1024) :
    k0_pay10 (F := Ideal) (k0_pay8 X0 X1 T b w3 w2 w1) w0 (k0_pay9 X0 X1 T) (ix2 r l) = blockTap X0 X1 T b w3 w2 w1 w0 r l := by
  rw [blockTap, ← conv_eq]
  unfold silu k0_pay8 k0_pay9
  obtain ⟨Q, hQ⟩ : ∃ Q, Q = k0_pay5 (F := Ideal) X0 X1 := ⟨_, rfl⟩
  obtain ⟨E, hE⟩ : ∃ E, E = k0_pay6 (F := Ideal) X0 X1 T := ⟨_, rfl⟩
  rw [← hQ, ← hE]
  clear hQ hE
  pointwise [k0_pay10]

theorem stored_q (v31 v33 : FVec Ideal S512x1024 .f32) (v32 : FVec Ideal S1x1024 .f32) (r l : Fin 512) :
    k0_pay11 (F := Ideal) v31 v32 v33 (ix3 0 r l) = k0_pay10 (F := Ideal) v31 v32 v33 (ix2 r ⟨0 + l.val, by omega⟩) := by
  have z : k0_pay11 (F := Ideal) v31 v32 v33 (ix3 0 r l) + 0 = k0_pay10 (F := Ideal) v31 v32 v33 (ix2 r ⟨0 + l.val, by omega⟩) + (0 : EReal) := by
    unfold k0_pay11
    obtain ⟨Q, hQ⟩ : ∃ Q, Q = k0_pay10 (F := Ideal) v31 v32 v33 := ⟨_, rfl⟩
    rw [← hQ]
    clear hQ
    pointwise []
  simpa only [add_zero] using z

theorem stored_k (v31 v33 : FVec Ideal S512x1024 .f32) (v32 : FVec Ideal S1x1024 .f32) (r l : Fin 512) :
    k0_pay12 (F := Ideal) v31 v32 v33 (ix3 0 r l)
      = k0_pay10 (F := Ideal) v31 v32 v33 (ix2 r ⟨512 + l.val, by omega⟩) * Ideal.ofBits .f32 0x3DB504F3#32 := by
  unfold k0_pay12
  obtain ⟨Q, hQ⟩ : ∃ Q, Q = k0_pay10 (F := Ideal) v31 v32 v33 := ⟨_, rfl⟩
  rw [← hQ]
  clear hQ
  pointwise []

/-- A row of a block times a column of a weight block. -/
def mulRow (r : Fin 512) (l : Fin 1024) : EReal := ∑ k : Fin 1024, X0 (ix3 0 r k) * X1 (ix2 k l)

/-- A gate lane of a row: the product and the offset. -/
def gateRow (W : FVec Ideal S1024x128 .bf16) (g : FVec Ideal S1x128 .f32) (r : Fin 512) (j : Fin 128) : EReal :=
  (∑ k : Fin 1024, X0 (ix3 0 r k) * W (ix2 k j)) + g (ix2 0 j)

/-- The same from the transposed weights. -/
def gateCol (W : FVec Ideal S8x1024 .bf16) (g : FVec Ideal S8x1 .f32) (r : Fin 512) (j : Fin 8) : EReal :=
  (∑ k : Fin 1024, W (ix2 j k) * X0 (ix3 0 r k)) + g (ix2 j 0)

theorem stored_v (r : Fin 512) (l : Fin 1024) :
    k0_pay13 (F := Ideal) (k0_pay3 X0) X1 (ix3 0 r l) = mulRow X0 X1 r l := by
  unfold mulRow
  pointwise [k0_pay13, k0_pay3]

theorem stored_o (r : Fin 512) (l : Fin 1024) :
    k0_pay14 (F := Ideal) (k0_pay3 X0) X1 (ix3 0 r l) = Ideal.logistic (mulRow X0 X1 r l) := by
  unfold mulRow
  pointwise [k0_pay14, k0_pay3]

theorem stored_g (W : FVec Ideal S1024x128 .bf16) (g : FVec Ideal S1x128 .f32) (r : Fin 512) (j : Fin 128) :
    k0_pay1 (F := Ideal) (k0_pay3 X0) (k0_pay15 W) (constant S512x128 .f32 0x00000000#32) g (ix3 0 r j)
      = gateRow X0 W g r j := by
  unfold gateRow
  pointwise [k0_pay1, k0_pay15, k0_pay3]

theorem stored_h (W : FVec Ideal S8x1024 .bf16) (g : FVec Ideal S8x1 .f32) (r : Fin 512) (j : Fin 8) :
    k0_pay2 (F := Ideal) (k0_pay3 X0) W g (ix3 0 j r)
      = gateCol X0 W g r j := by
  unfold gateCol
  pointwise [k0_pay2, k0_pay3]

end Payloads

variable (m : (ℓ : Loc nD τ sig) → Buf (Elt Ideal) ℓ)

/-- What a point leaves for the next one: the last eight rows of its own product. -/
theorem tail (c : Dev nD) (t : Fin cfg0.N) :
    (outsAt0 m c t.val t.isLt).2.2.2.2.2.2 = k0_pay7 (F := Ideal) (iblk m c 0 t) (iblk m c 1 t) := by
  by_cases h : t.val % 16 = 0
  · rw [outsAt0_A m c t h]
    dsimp only
    frame_out
  · rw [outsAt0_B m c t h]
    dsimp only
    frame_out

/-- The eight rows a point finds: none at the first point of a sequence. -/
def carry (c : Dev nD) (t : Fin cfg0.N) : FVec Ideal S8x1024 .f32 :=
  if t.val % 16 = 0 then k0_pay4 (F := Ideal)
  else k0_pay7 (F := Ideal) (iblk m c 0 ⟨t.val - 1, Nat.lt_of_le_of_lt (Nat.sub_le _ _) t.isLt⟩)
    (iblk m c 1 ⟨t.val - 1, Nat.lt_of_le_of_lt (Nat.sub_le _ _) t.isLt⟩)

theorem carry_A (c : Dev nD) (t : Fin cfg0.N) (h : t.val % 16 = 0) : carry m c t = k0_pay4 (F := Ideal) := if_pos h

theorem carry_B (c : Dev nD) (t : Fin cfg0.N) (h : ¬t.val % 16 = 0) : carry m c t = (outsAt0 m c (t.val - 1) (Nat.lt_of_le_of_lt (Nat.sub_le _ _) t.isLt)).2.2.2.2.2.2 :=
  (if_neg h).trans (tail m c ⟨t.val - 1, Nat.lt_of_le_of_lt (Nat.sub_le _ _) t.isLt⟩).symm

/-- One lane of the convolved block of point `t`. -/
def lane (c : Dev nD) (t : Fin cfg0.N) (r : Fin 512) (l : Fin 1024) : EReal :=
  blockTap (iblk m c 0 t) (iblk m c 1 t) (carry m c t) (iblk m c 7 t)
    (View.ld (Val := Elt Ideal) (S := S4x1024) (e' := .f32) (iblk m c 6 t) (Rect.unit ![3, 0] ![1, 1024] inb_S4x1024_S1x1024_3_0))
    (View.ld (Val := Elt Ideal) (S := S4x1024) (e' := .f32) (iblk m c 6 t) (Rect.unit ![2, 0] ![1, 1024] inb_S4x1024_S1x1024_2_0))
    (View.ld (Val := Elt Ideal) (S := S4x1024) (e' := .f32) (iblk m c 6 t) (Rect.unit ![1, 0] ![1, 1024] inb_S4x1024_S1x1024_1_0))
    (View.ld (Val := Elt Ideal) (S := S4x1024) (e' := .f32) (iblk m c 6 t) (Rect.unit ![0, 0] ![1, 1024] inb_S4x1024_S1x1024_0_0)) r l

theorem pointq (c : Dev nD) (t : Fin cfg0.N) (r l : Fin 512) :
    (outsAt0 m c t.val t.isLt).1 (ix3 0 r l) = lane m c t r ⟨0 + l.val, by omega⟩ := by
  by_cases h : t.val % 16 = 0
  · rw [outsAt0_A m c t h]
    dsimp only
    frame_out
    rw [stored_q, raw, lane, carry_A m c t h]
  · rw [outsAt0_B m c t h]
    dsimp only
    frame_out
    rw [read_unread_whole, stored_q, raw, lane, carry_B m c t h]

theorem pointk (c : Dev nD) (t : Fin cfg0.N) (r l : Fin 512) :
    (outsAt0 m c t.val t.isLt).2.1 (ix3 0 r l) = lane m c t r ⟨512 + l.val, by omega⟩ * Ideal.ofBits .f32 0x3DB504F3#32 := by
  by_cases h : t.val % 16 = 0
  · rw [outsAt0_A m c t h]
    dsimp only
    frame_out
    rw [stored_k, raw, lane, carry_A m c t h]
  · rw [outsAt0_B m c t h]
    dsimp only
    frame_out
    rw [read_unread_whole, stored_k, raw, lane, carry_B m c t h]

theorem pointv (c : Dev nD) (t : Fin cfg0.N) (r : Fin 512) (l : Fin 1024) :
    (outsAt0 m c t.val t.isLt).2.2.1 (ix3 0 r l) = mulRow (iblk m c 0 t) (iblk m c 2 t) r l := by
  by_cases h : t.val % 16 = 0
  · rw [outsAt0_A m c t h]
    dsimp only
    frame_out
    exact stored_v _ _ r l
  · rw [outsAt0_B m c t h]
    dsimp only
    frame_out
    exact stored_v _ _ r l

theorem pointo (c : Dev nD) (t : Fin cfg0.N) (r : Fin 512) (l : Fin 1024) :
    (outsAt0 m c t.val t.isLt).2.2.2.1 (ix3 0 r l) = Ideal.logistic (mulRow (iblk m c 0 t) (iblk m c 3 t) r l) := by
  by_cases h : t.val % 16 = 0
  · rw [outsAt0_A m c t h]
    dsimp only
    frame_out
    exact stored_o _ _ r l
  · rw [outsAt0_B m c t h]
    dsimp only
    frame_out
    exact stored_o _ _ r l

theorem pointg (c : Dev nD) (t : Fin cfg0.N) (r : Fin 512) (j : Fin 128) :
    (outsAt0 m c t.val t.isLt).2.2.2.2.1 (ix3 0 r j) = gateRow (iblk m c 0 t) (iblk m c 4 t) (iblk m c 8 t) r j := by
  by_cases h : t.val % 16 = 0
  · rw [outsAt0_A m c t h]
    dsimp only
    frame_out
    exact stored_g _ _ _ r j
  · rw [outsAt0_B m c t h]
    dsimp only
    frame_out
    exact stored_g _ _ _ r j

theorem pointh (c : Dev nD) (t : Fin cfg0.N) (r : Fin 512) (j : Fin 8) :
    (outsAt0 m c t.val t.isLt).2.2.2.2.2.1 (ix3 0 j r) = gateCol (iblk m c 0 t) (iblk m c 5 t) (iblk m c 9 t) r j := by
  by_cases h : t.val % 16 = 0
  · rw [outsAt0_A m c t h]
    dsimp only
    frame_out
    exact stored_h _ _ _ r j
  · rw [outsAt0_B m c t h]
    dsimp only
    frame_out
    exact stored_h _ _ _ r j

end Cert.ProjCKernelIdeal.Proj
-- ==== Proof.ProjCRef.lean ====
/-
  The reference of the second projection call read at an index.
-/
module

public import proofs.«01_k».proof.Proof.Gen.ProjCReferenceIdeal.Read
public import proofs.«01_k».proof.Proof.ProjCSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjCReferenceIdeal.Proj

open Cert.ProjCReferenceIdeal Cert.ProjCReferenceIdeal.Gen Cert.ProjCReferenceIdeal.Read Cert.ProjCSpec

variable (x0 : FVec Ideal S4x8192x1024 .f32) (x1 : FVec Ideal S1024x3080 .f32) (x2 : FVec Ideal S4x1024 .f32)
  (x3 : FVec Ideal S1024 .f32) (x4 x5 : FVec Ideal S4 .f32)

theorem col_apply (b : Fin 4) (s : Fin 8192) (l : Fin 1024) :
    val_main_v1 (F := Ideal) x0 x1 (ix3 b s l) = prod (fun k => x0 (ix3 b s k)) (fun k c => x1 (ix2 k c)) ⟨l.val, by omega⟩ := by
  unfold prod
  pointwise [val_main_v1, val_main_v0]

theorem padded (b : Fin 4) (s : Fin 8195) (l : Fin 1024) :
    val_main_v5 (F := Ideal) x0 x1 (ix3 b s l)
      = if h : 3 ≤ s.val then prod (fun k => x0 (ix3 b ⟨s.val - 3, by omega⟩ k)) (fun k c => x1 (ix2 k c)) ⟨l.val, by omega⟩ else 0 := by
  simp only [← col_apply x0 x1 b _ l]
  obtain ⟨Q, hQ⟩ : ∃ Q, Q = val_main_v1 (F := Ideal) x0 x1 := ⟨_, rfl⟩
  unfold val_main_v5
  rw [← hQ]
  clear hQ
  pointwise [val_main_call0_v0, val_main_c]
  rw [zero_word]
  by_cases h : 3 ≤ s.val
  · rw [dif_pos h, dif_pos (show 3 ≤ s.val ∧ s.val - 3 < 8192 from ⟨h, by omega⟩)]
  · rw [dif_neg h, dif_neg (fun h' => h h'.1)]

theorem pad0 (b : Fin 4) (s : Fin 8192) (l : Fin 1024) : val_main_v8 (F := Ideal) x0 x1 (ix3 b s l) = earlier (fun s => prod (fun k => x0 (ix3 b s k)) (fun k c => x1 (ix2 k c)) ⟨l.val, by omega⟩) s 0 := by
  have e : idx_main_v8 (ix3 b s l) = ix3 b ⟨s.val + 0, by omega⟩ l := by
    blk_ext
  rw [val_main_v8_apply, e, padded]
  rfl

theorem pad1 (b : Fin 4) (s : Fin 8192) (l : Fin 1024) : val_main_v14 (F := Ideal) x0 x1 (ix3 b s l) = earlier (fun s => prod (fun k => x0 (ix3 b s k)) (fun k c => x1 (ix2 k c)) ⟨l.val, by omega⟩) s 1 := by
  have e : idx_main_v14 (ix3 b s l) = ix3 b ⟨s.val + 1, by omega⟩ l := by
    blk_ext
  rw [val_main_v14_apply, e, padded]
  rfl

theorem pad2 (b : Fin 4) (s : Fin 8192) (l : Fin 1024) : val_main_v21 (F := Ideal) x0 x1 (ix3 b s l) = earlier (fun s => prod (fun k => x0 (ix3 b s k)) (fun k c => x1 (ix2 k c)) ⟨l.val, by omega⟩) s 2 := by
  have e : idx_main_v21 (ix3 b s l) = ix3 b ⟨s.val + 2, by omega⟩ l := by
    blk_ext
  rw [val_main_v21_apply, e, padded]
  rfl

theorem pad3 (b : Fin 4) (s : Fin 8192) (l : Fin 1024) : val_main_v28 (F := Ideal) x0 x1 (ix3 b s l) = earlier (fun s => prod (fun k => x0 (ix3 b s k)) (fun k c => x1 (ix2 k c)) ⟨l.val, by omega⟩) s 3 := by
  have e : idx_main_v28 (ix3 b s l) = ix3 b ⟨s.val + 3, by omega⟩ l := by
    blk_ext
  rw [val_main_v28_apply, e, padded]
  rfl

theorem act_apply (b : Fin 4) (s : Fin 8192) (l : Fin 1024) :
    val_main_v36 (F := Ideal) x0 x1 x2 x3 (ix3 b s l)
      = tap (fun s => prod (fun k => x0 (ix3 b s k)) (fun k c => x1 (ix2 k c)) ⟨l.val, by omega⟩) (x3 (ix1 l)) (fun j => x2 (ix2 j l)) s := by
  unfold tap silu conv Ideal.logistic
  rw [← pad0, ← pad1, ← pad2, ← pad3]
  pointwise [val_main_v36, val_main_v35, val_main_v32, val_main_v25, val_main_v18, val_main_v11, val_main_v10,
    val_main_v9, val_main_v7, val_main_v6, val_main_v17, val_main_v16, val_main_v15, val_main_v13,
    val_main_v12, val_main_v24, val_main_v23, val_main_v22, val_main_v20, val_main_v19, val_main_v31,
    val_main_v30, val_main_v29, val_main_v27, val_main_v26, val_main_v34, val_main_v33, val_main_call1_v5,
    val_main_call1_v4, val_main_call1_cst_0, val_main_call1_v3, val_main_call1_v2, val_main_call1_cst,
    val_main_call1_v1, val_main_call1_v0]

theorem q_apply (b : Fin 4) (s : Fin 8192) (l : Fin 512) :
    val_main_v44 (F := Ideal) x0 x1 x2 x3 (ix3 b s l) = val_main_v36 (F := Ideal) x0 x1 x2 x3 (ix3 b s ⟨0 + l.val, by omega⟩) := by
  have e : idx_main_v37 (ix3 b s l) = ix3 b s ⟨0 + l.val, by omega⟩ := by
    blk_ext
  rw [val_main_v44_apply, val_main_v37_apply, e]
  rfl

theorem k_apply (b : Fin 4) (s : Fin 8192) (l : Fin 512) :
    val_main_v47 (F := Ideal) x0 x1 x2 x3 (ix3 b s l)
      = val_main_v36 (F := Ideal) x0 x1 x2 x3 (ix3 b s ⟨512 + l.val, by omega⟩) * Ideal.ofBits .f32 0x3DB504F3#32 := by
  pointwise [val_main_v47, val_main_v46, val_main_v38, val_main_v45, val_main_cst]

theorem v_apply (b : Fin 4) (s : Fin 8192) (l : Fin 1024) :
    val_main_v48 (F := Ideal) x0 x1 (ix3 b s l) = prod (fun k => x0 (ix3 b s k)) (fun k c => x1 (ix2 k c)) ⟨1024 + l.val, by omega⟩ := by
  unfold prod
  pointwise [val_main_v48, val_main_v2, val_main_v0]

theorem o_apply (b : Fin 4) (s : Fin 8192) (l : Fin 1024) :
    val_main_v55 (F := Ideal) x0 x1 (ix3 b s l) = Ideal.logistic (prod (fun k => x0 (ix3 b s k)) (fun k c => x1 (ix2 k c)) ⟨2048 + l.val, by omega⟩) := by
  unfold prod Ideal.logistic
  pointwise [val_main_v55, val_main_v54, val_main_v53, val_main_cst_2, val_main_v52, val_main_v51, val_main_cst_1,
    val_main_v50, val_main_v49, val_main_v3, val_main_v0]

theorem offset_apply (j : Fin 8) : val_main_v39 (F := Ideal) x4 x5 (ix1 j) = offset (fun i => x4 (ix1 i)) (fun i => x5 (ix1 i)) j := by
  unfold offset
  have z : val_main_v39 (F := Ideal) x4 x5 (ix1 j) + 0
      = (if h : j.val < 4 then x4 (ix1 ⟨j.val, h⟩) else x5 (ix1 ⟨j.val - 4, by omega⟩)) + (0 : EReal) := by
    pointwise [val_main_v39]
  simpa only [add_zero] using z

theorem gate_apply (b : Fin 4) (s : Fin 8192) (j : Fin 8) :
    val_main_v42 (F := Ideal) x0 x1 x4 x5 (ix3 b s j) = gate (fun k => x0 (ix3 b s k)) (fun k c => x1 (ix2 k c)) (fun i => x4 (ix1 i)) (fun i => x5 (ix1 i)) j := by
  unfold gate
  rw [← offset_apply]
  unfold prod
  pointwise [val_main_v42, val_main_v4, val_main_v0, val_main_v41, val_main_v40]

theorem g_apply (b : Fin 4) (s : Fin 8192) (j : Fin 128) :
    val_main_v43 (F := Ideal) x0 x1 x4 x5 (ix3 b s j)
      = if h : j.val < 8 then gate (fun k => x0 (ix3 b s k)) (fun k c => x1 (ix2 k c)) (fun i => x4 (ix1 i)) (fun i => x5 (ix1 i)) ⟨j.val, h⟩ else 0 := by
  simp only [← gate_apply x0 x1 x4 x5 b s]
  obtain ⟨Q, hQ⟩ : ∃ Q, Q = val_main_v42 (F := Ideal) x0 x1 x4 x5 := ⟨_, rfl⟩
  unfold val_main_v43
  rw [← hQ]
  clear hQ
  pointwise [val_main_call2_v0, val_main_c_0]
  rw [zero_word]

theorem h_apply (b : Fin 4) (s : Fin 8192) (j : Fin 8) :
    val_main_v56 (F := Ideal) x0 x1 x4 x5 (ix3 b j s) = gate (fun k => x0 (ix3 b s k)) (fun k c => x1 (ix2 k c)) (fun i => x4 (ix1 i)) (fun i => x5 (ix1 i)) j := by
  rw [← gate_apply]
  have e : idx_main_v56 (ix3 b j s) = ix3 b s j := by
    blk_ext
  rw [val_main_v56_apply, e]

end Cert.ProjCReferenceIdeal.Proj
-- ==== Proof.ProjCTie.lean ====
/-
  The second projection call: the kernel's result arrays after its run are the reference's, element by element.
-/
module

public import proofs.«01_k».proof.Proof.ProjCBlock
public import proofs.«01_k».proof.Proof.ProjCRef

@[expose] public section

set_option maxRecDepth 16384

noncomputable section

open Idealize.ShloMosaic Idealize.ShloMosaic.TcCoe Idealize.SL.Sem
open Idealize.ShloMosaic.Pipeline (Dat)

namespace Cert.ProjCKernelIdeal.Proj

open Cert.ProjCKernelIdeal Cert.ProjCKernelIdeal.Gen Cert.ProjCSpec

variable (m : (ℓ : Loc nD τ sig) → Buf (Elt Ideal) ℓ)

theorem of_add {x y : EReal} (h : x + 0 = y + 0) : x = y := by
  simpa only [add_zero] using h

/-- The six arguments at an index. -/
abbrev ax (c : Dev nD) (p : Fin 4) (q : Fin 8192) (k : Fin 1024) : EReal := (m ((c : Thread nD τ).loc main_arg0) : FVec Ideal S4x8192x1024 .f32) (ix3 p q k)
abbrev aw (c : Dev nD) (k : Fin 1024) (l : Fin 3080) : EReal := (m ((c : Thread nD τ).loc main_arg1) : FVec Ideal S1024x3080 .f32) (ix2 k l)
abbrev ac (c : Dev nD) (j : Fin 4) (l : Fin 1024) : EReal := (m ((c : Thread nD τ).loc main_arg2) : FVec Ideal S4x1024 .f32) (ix2 j l)
abbrev ab (c : Dev nD) (l : Fin 1024) : EReal := (m ((c : Thread nD τ).loc main_arg3) : FVec Ideal S1024 .f32) (ix1 l)
abbrev ai (c : Dev nD) (i : Fin 4) : EReal := (m ((c : Thread nD τ).loc main_arg4) : FVec Ideal S4 .f32) (ix1 i)
abbrev af (c : Dev nD) (i : Fin 4) : EReal := (m ((c : Thread nD τ).loc main_arg5) : FVec Ideal S4 .f32) (ix1 i)

/-- The host lines before the launch, as one list. -/
theorem entry (c : Dev nD) (b : Ref sig .tc) : V m c b = StableHlo.after (hostOps0 ++ (hostOps0_1 ++ (hostOps0_2 ++ (hostOps0_3 ++ hostOps0_4)))) (fun b => m (c, b)) (Proc.tc.devRef b) := by
  simp only [V, List.flatten_cons, List.flatten_nil, List.append_nil]

/-- The block index of every window at every point. -/
theorem idx : ∀ t : Fin cfg0.N, win0_0.index t = ![t.val / 16, t.val % 16, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![t.val / 16, t.val % 16, 0] ∧ win0_11.index t = ![t.val / 16, t.val % 16, 0] ∧ win0_12.index t = ![t.val / 16, t.val % 16, 0] ∧ win0_13.index t = ![t.val / 16, t.val % 16, 0] ∧ win0_14.index t = ![t.val / 16, t.val % 16, 0] ∧ win0_15.index t = ![t.val / 16, 0, t.val % 16] ∧ t.val < 64 :=
  (by decide +kernel : ∀ t : Fin grid0.N, _)

theorem lt64 (t : Fin cfg0.N) : t.val < 64 := (idx t).2.2.2.2.2.2.2.2.2.2.2.2.2.2.2.2

theorem read0 (c : Dev nD) (t : Fin cfg0.N) (r : Fin 512) (l : Fin 1024) (p : Fin 4) (q : Fin 8192)
    (hp : p.val = t.val / 16) (hq : q.val = t.val % 16 * 512 + r.val) :
    (iblk m c 0 t : FVec Ideal S1x512x1024 .f32) (ix3 0 r l) = ax m c p q l := by
  blk_ext! [iblk, V, idx t]

theorem entry1 (c : Dev nD) (k l : Fin 1024) :
    (V m c main_v1 : FVec Ideal S1024x1024 .bf16) (ix2 k l) = aw m c k ⟨0 + l.val, by omega⟩ := by
  rw [entry]
  simp only [hostOps0, hostOps0_1, hostOps0_2, hostOps0_3, hostOps0_4, List.cons_append, List.nil_append]
  entry_read
  pointwise

theorem read1 (c : Dev nD) (t : Fin cfg0.N) (k l : Fin 1024) :
    (iblk m c 1 t : FVec Ideal S1024x1024 .bf16) (ix2 k l) = aw m c k ⟨0 + l.val, by omega⟩ := by
  have e : (iblk m c 1 t : FVec Ideal S1024x1024 .bf16) (ix2 k l) = (V m c main_v1 : FVec Ideal S1024x1024 .bf16) (ix2 k l) := by
    blk_ext [iblk, idx t]
  rw [e, entry1]

theorem entry2 (c : Dev nD) (k l : Fin 1024) :
    (V m c main_v3 : FVec Ideal S1024x1024 .bf16) (ix2 k l) = aw m c k ⟨1024 + l.val, by omega⟩ := by
  rw [entry]
  simp only [hostOps0, hostOps0_1, hostOps0_2, hostOps0_3, hostOps0_4, List.cons_append, List.nil_append]
  entry_read
  pointwise

theorem read2 (c : Dev nD) (t : Fin cfg0.N) (k l : Fin 1024) :
    (iblk m c 2 t : FVec Ideal S1024x1024 .bf16) (ix2 k l) = aw m c k ⟨1024 + l.val, by omega⟩ := by
  have e : (iblk m c 2 t : FVec Ideal S1024x1024 .bf16) (ix2 k l) = (V m c main_v3 : FVec Ideal S1024x1024 .bf16) (ix2 k l) := by
    blk_ext [iblk, idx t]
  rw [e, entry2]

theorem entry3 (c : Dev nD) (k l : Fin 1024) :
    (V m c main_v5 : FVec Ideal S1024x1024 .bf16) (ix2 k l) = aw m c k ⟨2048 + l.val, by omega⟩ := by
  rw [entry]
  simp only [hostOps0, hostOps0_1, hostOps0_2, hostOps0_3, hostOps0_4, List.cons_append, List.nil_append]
  entry_read
  pointwise

theorem read3 (c : Dev nD) (t : Fin cfg0.N) (k l : Fin 1024) :
    (iblk m c 3 t : FVec Ideal S1024x1024 .bf16) (ix2 k l) = aw m c k ⟨2048 + l.val, by omega⟩ := by
  have e : (iblk m c 3 t : FVec Ideal S1024x1024 .bf16) (ix2 k l) = (V m c main_v5 : FVec Ideal S1024x1024 .bf16) (ix2 k l) := by
    blk_ext [iblk, idx t]
  rw [e, entry3]

theorem entry4 (c : Dev nD) (k : Fin 1024) (j : Fin 128) :
    (V m c main_v8 : FVec Ideal S1024x128 .bf16) (ix2 k j) = if h : j.val < 8 then aw m c k ⟨3072 + j.val, by omega⟩ else 0 := by
  rw [← zero_word]
  rw [entry]
  simp only [hostOps0, hostOps0_1, hostOps0_2, hostOps0_3, hostOps0_4, List.cons_append, List.nil_append]
  entry_read
  pointwise
  show (pad S1024x128 ![0, 0] ![0, 120] ![0, 0]
    (extractStridedSlice S1024x8 ![0, 3072] (m ((c : Thread nD τ).loc main_arg1) : FVec Ideal S1024x3080 .f32) slices_S1024x3080_S1024x8_0_3072 : FVec Ideal S1024x8 .f32)
    (sitofp .f32 (constantI S_ 32 0#32) : FVec Ideal S_ .f32) pads_S1024x8_S1024x128_000_01200 h_S_ : FVec Ideal S1024x128 .f32) (ix2 k j) = _
  pointwise

theorem read4 (c : Dev nD) (t : Fin cfg0.N) (k : Fin 1024) (j : Fin 128) :
    (iblk m c 4 t : FVec Ideal S1024x128 .bf16) (ix2 k j) = if h : j.val < 8 then aw m c k ⟨3072 + j.val, by omega⟩ else 0 := by
  have e : (iblk m c 4 t : FVec Ideal S1024x128 .bf16) (ix2 k j) = (V m c main_v8 : FVec Ideal S1024x128 .bf16) (ix2 k j) := by
    blk_ext [iblk, idx t]
  rw [e, entry4]

theorem entry5 (c : Dev nD) (j : Fin 8) (k : Fin 1024) :
    (V m c main_v10 : FVec Ideal S8x1024 .bf16) (ix2 j k) = aw m c k ⟨3072 + j.val, by omega⟩ := by
  rw [entry]
  simp only [hostOps0, hostOps0_1, hostOps0_2, hostOps0_3, hostOps0_4, List.cons_append, List.nil_append]
  entry_read
  pointwise

theorem read5 (c : Dev nD) (t : Fin cfg0.N) (j : Fin 8) (k : Fin 1024) :
    (iblk m c 5 t : FVec Ideal S8x1024 .bf16) (ix2 j k) = aw m c k ⟨3072 + j.val, by omega⟩ := by
  have e : (iblk m c 5 t : FVec Ideal S8x1024 .bf16) (ix2 j k) = (V m c main_v10 : FVec Ideal S8x1024 .bf16) (ix2 j k) := by
    blk_ext [iblk, idx t]
  rw [e, entry5]

theorem read6 (c : Dev nD) (t : Fin cfg0.N) (j : Fin 4) (l : Fin 1024) :
    (iblk m c 6 t : FVec Ideal S4x1024 .f32) (ix2 j l) = ac m c j l := by
  blk_ext! [iblk, V, idx t]

theorem entry7 (c : Dev nD) (l : Fin 1024) :
    (V m c main_v15 : FVec Ideal S1x1024 .f32) (ix2 0 l) = ab m c l := by
  refine of_add ?_
  rw [entry]
  simp only [hostOps0, hostOps0_1, hostOps0_2, hostOps0_3, hostOps0_4, List.cons_append, List.nil_append]
  entry_read
  pointwise

theorem read7 (c : Dev nD) (t : Fin cfg0.N) (l : Fin 1024) :
    (iblk m c 7 t : FVec Ideal S1x1024 .f32) (ix2 0 l) = ab m c l := by
  have e : (iblk m c 7 t : FVec Ideal S1x1024 .f32) (ix2 0 l) = (V m c main_v15 : FVec Ideal S1x1024 .f32) (ix2 0 l) := by
    blk_ext [iblk, idx t]
  rw [e, entry7]

theorem entry8 (c : Dev nD) (j : Fin 128) :
    (V m c main_v13 : FVec Ideal S1x128 .f32) (ix2 0 j) = if h : j.val < 8 then offset (ai m c) (af m c) ⟨j.val, h⟩ else 0 := by
  unfold offset
  rw [← zero_word]
  refine of_add ?_
  rw [entry]
  simp only [hostOps0, hostOps0_1, hostOps0_2, hostOps0_3, hostOps0_4, List.cons_append, List.nil_append]
  entry_read
  pointwise
  show (pad S128 ![0] ![120] ![0]
    (concatenate S8 0 [⟨S4, (m ((c : Thread nD τ).loc main_arg4) : FVec Ideal S4 .f32)⟩, ⟨S4, (m ((c : Thread nD τ).loc main_arg5) : FVec Ideal S4 .f32)⟩] concatenates_S4_S4_S8_d0 : FVec Ideal S8 .f32)
    (sitofp .f32 (constantI S_ 32 0#32) : FVec Ideal S_ .f32) pads_S8_S128_01200 h_S_ : FVec Ideal S128 .f32) (ix1 j) = _
  pointwise

theorem read8 (c : Dev nD) (t : Fin cfg0.N) (j : Fin 128) :
    (iblk m c 8 t : FVec Ideal S1x128 .f32) (ix2 0 j) = if h : j.val < 8 then offset (ai m c) (af m c) ⟨j.val, h⟩ else 0 := by
  have e : (iblk m c 8 t : FVec Ideal S1x128 .f32) (ix2 0 j) = (V m c main_v13 : FVec Ideal S1x128 .f32) (ix2 0 j) := by
    blk_ext [iblk, idx t]
  rw [e, entry8]

theorem entry9 (c : Dev nD) (j : Fin 8) :
    (V m c main_v14 : FVec Ideal S8x1 .f32) (ix2 j 0) = offset (ai m c) (af m c) j := by
  unfold offset
  refine of_add ?_
  rw [entry]
  simp only [hostOps0, hostOps0_1, hostOps0_2, hostOps0_3, hostOps0_4, List.cons_append, List.nil_append]
  entry_read
  pointwise

theorem read9 (c : Dev nD) (t : Fin cfg0.N) (j : Fin 8) :
    (iblk m c 9 t : FVec Ideal S8x1 .f32) (ix2 j 0) = offset (ai m c) (af m c) j := by
  have e : (iblk m c 9 t : FVec Ideal S8x1 .f32) (ix2 j 0) = (V m c main_v14 : FVec Ideal S8x1 .f32) (ix2 j 0) := by
    blk_ext [iblk, idx t]
  rw [e, entry9]

/-- A product row of the whole call. -/
abbrev whole (c : Dev nD) (p : Fin 4) (q : Fin 8192) (j : Fin 3080) : EReal :=
  prod (ax m c p q) (aw m c) j

theorem mulRow1 (c : Dev nD) (t : Fin cfg0.N) (r : Fin 512) (l : Fin 1024) (p : Fin 4) (q : Fin 8192) (j : Fin 3080)
    (hp : p.val = t.val / 16) (hq : q.val = t.val % 16 * 512 + r.val) (hj : j.val = l.val) :
    mulRow (iblk m c 0 t) (iblk m c 1 t) r l = whole m c p q j := by
  refine Finset.sum_congr rfl fun k _ => ?_
  rw [read0 m c t r k p q hp hq, read1]
  exact congrArg (fun z => ax m c p q k * aw m c k z) (Fin.ext (by dsimp only; omega))

theorem mulRow2 (c : Dev nD) (t : Fin cfg0.N) (r : Fin 512) (l : Fin 1024) (p : Fin 4) (q : Fin 8192)
    (hp : p.val = t.val / 16) (hq : q.val = t.val % 16 * 512 + r.val) :
    mulRow (iblk m c 0 t) (iblk m c 2 t) r l = whole m c p q ⟨1024 + l.val, by omega⟩ := by
  refine Finset.sum_congr rfl fun k _ => ?_
  rw [read0 m c t r k p q hp hq, read2]

theorem mulRow3 (c : Dev nD) (t : Fin cfg0.N) (r : Fin 512) (l : Fin 1024) (p : Fin 4) (q : Fin 8192)
    (hp : p.val = t.val / 16) (hq : q.val = t.val % 16 * 512 + r.val) :
    mulRow (iblk m c 0 t) (iblk m c 3 t) r l = whole m c p q ⟨2048 + l.val, by omega⟩ := by
  refine Finset.sum_congr rfl fun k _ => ?_
  rw [read0 m c t r k p q hp hq, read3]

/-- The carried rows and the block's own, as rows of the whole call. -/
theorem ext_eq (c : Dev nD) (t : Fin cfg0.N) (r : Fin 512) (l : Fin 1024) (p : Fin 4) (q : Fin 8192) (n : Fin 3080) (j : Fin 4)
    (i : Fin 520) (hp : p.val = t.val / 16) (hq : q.val = t.val % 16 * 512 + r.val) (hn : n.val = l.val) (hi : i.val = 5 + j.val + r.val) :
    k0_pay6 (F := Ideal) (iblk m c 0 t) (iblk m c 1 t) (carry m c t) (ix2 i l) = earlier (fun s => whole m c p s n) q j := by
  have ht := lt64 t
  rw [ext_apply, earlier]
  by_cases h : i.val < 8
  · rw [dif_pos h]
    by_cases h0 : t.val % 16 = 0
    · rw [carry_A m c t h0, none_apply, dif_neg (by omega)]
    · rw [carry, if_neg h0, tail_apply, dif_pos (by omega)]
      exact mulRow1 m c ⟨t.val - 1, Nat.lt_of_le_of_lt (Nat.sub_le _ _) t.isLt⟩ ⟨504 + i.val, by omega⟩ l p ⟨q.val + j.val - 3, by omega⟩ n
        (by dsimp only; omega) (by dsimp only; omega) hn
  · rw [dif_neg h, dif_pos (by omega), row_apply]
    exact mulRow1 m c t ⟨i.val - 8, by omega⟩ l p ⟨q.val + j.val - 3, by omega⟩ n hp (by dsimp only; omega) hn

theorem ld6 (c : Dev nD) (t : Fin cfg0.N) (j : Fin 4) (l : Fin 1024) (h : ∀ a : Fin 2, (![j.val, 0] : Fin 2 → ℕ) a + (![1, 1024] : Fin 2 → ℕ) a ≤ S4x1024.size a) :
    (View.ld (Val := Elt Ideal) (S := S4x1024) (e' := .f32) (iblk m c 6 t) (Rect.unit ![j.val, 0] ![1, 1024] h) : FVec Ideal S1x1024 .f32) (ix2 0 l)
      = ac m c j l := by
  refine Eq.trans (congrArg (iblk m c 6 t : FVec Ideal S4x1024 .f32) (?_ : _ = ix2 j l)) (read6 m c t j l)
  exact funext fun a => Fin.ext (by fin_cases a <;> simp [Rect.unit])

theorem lane_eq (c : Dev nD) (t : Fin cfg0.N) (r : Fin 512) (l : Fin 1024) (p : Fin 4) (q : Fin 8192)
    (hp : p.val = t.val / 16) (hq : q.val = t.val % 16 * 512 + r.val) :
    lane m c t r l = tap (fun s => whole m c p s ⟨l.val, by omega⟩) (ab m c l) (fun j => ac m c j l) q := by
  have e3 : k0_pay5 (F := Ideal) (iblk m c 0 t) (iblk m c 1 t) (ix2 r l) = earlier (fun s => whole m c p s ⟨l.val, by omega⟩) q 3 := by
    rw [row_apply, earlier, dif_pos (show 3 ≤ q.val + (3 : Fin 4).val from Nat.le_add_left 3 _)]
    exact mulRow1 m c t r l p _ _ hp (by show q.val + 3 - 3 = _; omega) rfl
  rw [lane, blockTap, tap, read7, e3,
    ext_eq m c t r l p q ⟨l.val, by omega⟩ 0 ⟨5 + r.val, by omega⟩ hp hq rfl rfl,
    ext_eq m c t r l p q ⟨l.val, by omega⟩ 1 ⟨6 + r.val, by omega⟩ hp hq rfl rfl,
    ext_eq m c t r l p q ⟨l.val, by omega⟩ 2 ⟨7 + r.val, by omega⟩ hp hq rfl rfl]
  refine congrArg silu ?_
  refine congr (congrArg (conv _) ?_) ?_
  · funext j
    fin_cases j
    · exact ld6 m c t 0 l inb_S4x1024_S1x1024_0_0
    · exact ld6 m c t 1 l inb_S4x1024_S1x1024_1_0
    · exact ld6 m c t 2 l inb_S4x1024_S1x1024_2_0
    · exact ld6 m c t 3 l inb_S4x1024_S1x1024_3_0
  · funext j
    fin_cases j <;> rfl

theorem gateRow_eq (c : Dev nD) (t : Fin cfg0.N) (r : Fin 512) (j : Fin 128) (p : Fin 4) (q : Fin 8192)
    (hp : p.val = t.val / 16) (hq : q.val = t.val % 16 * 512 + r.val) :
    gateRow (iblk m c 0 t) (iblk m c 4 t) (iblk m c 8 t) r j
      = if h : j.val < 8 then gate (ax m c p q) (aw m c) (ai m c) (af m c) ⟨j.val, h⟩ else 0 := by
  rw [gateRow, read8]
  simp only [read4, read0 m c t r _ p q hp hq]
  by_cases h : j.val < 8
  · simp only [dif_pos h]
    rfl
  · simp only [dif_neg h, mul_zero, Finset.sum_const_zero, add_zero]

theorem gateCol_eq (c : Dev nD) (t : Fin cfg0.N) (r : Fin 512) (j : Fin 8) (p : Fin 4) (q : Fin 8192)
    (hp : p.val = t.val / 16) (hq : q.val = t.val % 16 * 512 + r.val) :
    gateCol (iblk m c 0 t) (iblk m c 5 t) (iblk m c 9 t) r j
      = gate (ax m c p q) (aw m c) (ai m c) (af m c) j := by
  rw [gateCol, read9, gate, prod]
  refine congrArg (· + _) (Finset.sum_congr rfl fun k _ => ?_)
  rw [read5, read0 m c t r k p q hp hq, mul_comm]

/-- A result array: the reference's value at the kernel's arguments. -/
abbrev result_q (c : Dev nD) : FVec Ideal S4x8192x512 .bf16 :=
  Cert.ProjCReferenceIdeal.Read.val_main_v44 (F := Ideal) (m ((c : Thread nD τ).loc main_arg0)) (m ((c : Thread nD τ).loc main_arg1)) (m ((c : Thread nD τ).loc main_arg2)) (m ((c : Thread nD τ).loc main_arg3))

theorem final_q (c : Dev nD) : (dats m 0 c).arrAt 10 (cfgs 0).N = result_q m c := by
  refine (dats m 0 c).arrAt_eq_of_covers 10 _ (by decide +kernel) fun t _ y => ?_
  blk_simp
  rw [after0_10]
  obtain ⟨y0, y1, rfl⟩ : ∃ (a : Fin 512) (b : Fin 512), y = (ix3 0 a b : S1x512x512.Idx) := ⟨y 1, y 2, by blk_ext⟩
  refine (pointq m c t y0 y1).trans ?_
  have ht := lt64 t
  have e : ((View.whole main_v16_0).slice (win0_10.rect t)).emb (ix3 0 y0 y1)
      = (ix3 ⟨t.val / 16, by omega⟩ ⟨t.val % 16 * 512 + y0.val, by omega⟩ y1 : S4x8192x512.Idx) := by
    blk_ext [idx t]
  rw [e]
  refine Eq.trans ?_ (Cert.ProjCReferenceIdeal.Proj.q_apply _ _ _ _ _ _ _).symm
  rw [Cert.ProjCReferenceIdeal.Proj.act_apply, lane_eq m c t y0 _ ⟨t.val / 16, by omega⟩ ⟨t.val % 16 * 512 + y0.val, by omega⟩ rfl rfl]

/-- A result array: the reference's value at the kernel's arguments. -/
abbrev result_k (c : Dev nD) : FVec Ideal S4x8192x512 .bf16 :=
  Cert.ProjCReferenceIdeal.Read.val_main_v47 (F := Ideal) (m ((c : Thread nD τ).loc main_arg0)) (m ((c : Thread nD τ).loc main_arg1)) (m ((c : Thread nD τ).loc main_arg2)) (m ((c : Thread nD τ).loc main_arg3))

theorem final_k (c : Dev nD) : (dats m 0 c).arrAt 11 (cfgs 0).N = result_k m c := by
  refine (dats m 0 c).arrAt_eq_of_covers 11 _ (by decide +kernel) fun t _ y => ?_
  blk_simp
  rw [after0_11]
  obtain ⟨y0, y1, rfl⟩ : ∃ (a : Fin 512) (b : Fin 512), y = (ix3 0 a b : S1x512x512.Idx) := ⟨y 1, y 2, by blk_ext⟩
  refine (pointk m c t y0 y1).trans ?_
  have ht := lt64 t
  have e : ((View.whole main_v16_1).slice (win0_11.rect t)).emb (ix3 0 y0 y1)
      = (ix3 ⟨t.val / 16, by omega⟩ ⟨t.val % 16 * 512 + y0.val, by omega⟩ y1 : S4x8192x512.Idx) := by
    blk_ext [idx t]
  rw [e]
  refine Eq.trans ?_ (Cert.ProjCReferenceIdeal.Proj.k_apply _ _ _ _ _ _ _).symm
  rw [Cert.ProjCReferenceIdeal.Proj.act_apply, lane_eq m c t y0 _ ⟨t.val / 16, by omega⟩ ⟨t.val % 16 * 512 + y0.val, by omega⟩ rfl rfl]

/-- A result array: the reference's value at the kernel's arguments. -/
abbrev result_v (c : Dev nD) : FVec Ideal S4x8192x1024 .bf16 :=
  Cert.ProjCReferenceIdeal.Read.val_main_v48 (F := Ideal) (m ((c : Thread nD τ).loc main_arg0)) (m ((c : Thread nD τ).loc main_arg1))

theorem final_v (c : Dev nD) : (dats m 0 c).arrAt 12 (cfgs 0).N = result_v m c := by
  refine (dats m 0 c).arrAt_eq_of_covers 12 _ (by decide +kernel) fun t _ y => ?_
  blk_simp
  rw [after0_12]
  obtain ⟨y0, y1, rfl⟩ : ∃ (a : Fin 512) (b : Fin 1024), y = (ix3 0 a b : S1x512x1024.Idx) := ⟨y 1, y 2, by blk_ext⟩
  refine (pointv m c t y0 y1).trans ?_
  have ht := lt64 t
  have e : ((View.whole main_v16_2).slice (win0_12.rect t)).emb (ix3 0 y0 y1)
      = (ix3 ⟨t.val / 16, by omega⟩ ⟨t.val % 16 * 512 + y0.val, by omega⟩ y1 : S4x8192x1024.Idx) := by
    blk_ext [idx t]
  rw [e]
  refine Eq.trans ?_ (Cert.ProjCReferenceIdeal.Proj.v_apply _ _ _ _ _).symm
  rw [mulRow2 m c t y0 _ ⟨t.val / 16, by omega⟩ ⟨t.val % 16 * 512 + y0.val, by omega⟩ rfl rfl]

/-- A result array: the reference's value at the kernel's arguments. -/
abbrev result_o (c : Dev nD) : FVec Ideal S4x8192x1024 .bf16 :=
  Cert.ProjCReferenceIdeal.Read.val_main_v55 (F := Ideal) (m ((c : Thread nD τ).loc main_arg0)) (m ((c : Thread nD τ).loc main_arg1))

theorem final_o (c : Dev nD) : (dats m 0 c).arrAt 13 (cfgs 0).N = result_o m c := by
  refine (dats m 0 c).arrAt_eq_of_covers 13 _ (by decide +kernel) fun t _ y => ?_
  blk_simp
  rw [after0_13]
  obtain ⟨y0, y1, rfl⟩ : ∃ (a : Fin 512) (b : Fin 1024), y = (ix3 0 a b : S1x512x1024.Idx) := ⟨y 1, y 2, by blk_ext⟩
  refine (pointo m c t y0 y1).trans ?_
  have ht := lt64 t
  have e : ((View.whole main_v16_3).slice (win0_13.rect t)).emb (ix3 0 y0 y1)
      = (ix3 ⟨t.val / 16, by omega⟩ ⟨t.val % 16 * 512 + y0.val, by omega⟩ y1 : S4x8192x1024.Idx) := by
    blk_ext [idx t]
  rw [e]
  refine Eq.trans ?_ (Cert.ProjCReferenceIdeal.Proj.o_apply _ _ _ _ _).symm
  rw [mulRow3 m c t y0 _ ⟨t.val / 16, by omega⟩ ⟨t.val % 16 * 512 + y0.val, by omega⟩ rfl rfl]

/-- A result array: the reference's value at the kernel's arguments. -/
abbrev result_g (c : Dev nD) : FVec Ideal S4x8192x128 .f32 :=
  Cert.ProjCReferenceIdeal.Read.val_main_v43 (F := Ideal) (m ((c : Thread nD τ).loc main_arg0)) (m ((c : Thread nD τ).loc main_arg1)) (m ((c : Thread nD τ).loc main_arg4)) (m ((c : Thread nD τ).loc main_arg5))

theorem final_g (c : Dev nD) : (dats m 0 c).arrAt 14 (cfgs 0).N = result_g m c := by
  refine (dats m 0 c).arrAt_eq_of_covers 14 _ (by decide +kernel) fun t _ y => ?_
  blk_simp
  rw [after0_14]
  obtain ⟨y0, y1, rfl⟩ : ∃ (a : Fin 512) (b : Fin 128), y = (ix3 0 a b : S1x512x128.Idx) := ⟨y 1, y 2, by blk_ext⟩
  refine (pointg m c t y0 y1).trans ?_
  have ht := lt64 t
  have e : ((View.whole main_v16_4).slice (win0_14.rect t)).emb (ix3 0 y0 y1)
      = (ix3 ⟨t.val / 16, by omega⟩ ⟨t.val % 16 * 512 + y0.val, by omega⟩ y1 : S4x8192x128.Idx) := by
    blk_ext [idx t]
  rw [e]
  refine Eq.trans ?_ (Cert.ProjCReferenceIdeal.Proj.g_apply _ _ _ _ _ _ _).symm
  rw [gateRow_eq m c t y0 _ ⟨t.val / 16, by omega⟩ ⟨t.val % 16 * 512 + y0.val, by omega⟩ rfl rfl]

/-- A result array: the reference's value at the kernel's arguments. -/
abbrev result_h (c : Dev nD) : FVec Ideal S4x8x8192 .f32 :=
  Cert.ProjCReferenceIdeal.Read.val_main_v56 (F := Ideal) (m ((c : Thread nD τ).loc main_arg0)) (m ((c : Thread nD τ).loc main_arg1)) (m ((c : Thread nD τ).loc main_arg4)) (m ((c : Thread nD τ).loc main_arg5))

theorem final_h (c : Dev nD) : (dats m 0 c).arrAt 15 (cfgs 0).N = result_h m c := by
  refine (dats m 0 c).arrAt_eq_of_covers 15 _ (by decide +kernel) fun t _ y => ?_
  blk_simp
  rw [after0_15]
  obtain ⟨y0, y1, rfl⟩ : ∃ (a : Fin 512) (b : Fin 8), y = (ix3 0 b a : S1x8x512.Idx) := ⟨y 2, y 1, by blk_ext⟩
  refine (pointh m c t y0 y1).trans ?_
  have ht := lt64 t
  have e : ((View.whole main_v16_5).slice (win0_15.rect t)).emb (ix3 0 y1 y0)
      = (ix3 ⟨t.val / 16, by omega⟩ y1 ⟨t.val % 16 * 512 + y0.val, by omega⟩ : S4x8x8192.Idx) := by
    blk_ext [idx t]
  rw [e]
  refine Eq.trans ?_ (Cert.ProjCReferenceIdeal.Proj.h_apply _ _ _ _ _ _ _).symm
  rw [gateCol_eq m c t y0 _ ⟨t.val / 16, by omega⟩ ⟨t.val % 16 * 512 + y0.val, by omega⟩ rfl rfl]

end Cert.ProjCKernelIdeal.Proj
-- ==== Proof.ProjCClaims.lean ====
/-
  The claims about the second projection call, assembled.
-/
module

public import proofs.«01_k».proof.Defs
public import proofs.«01_k».proof.Proof.Gen.ProjCKernel.Frame
public import proofs.«01_k».proof.Proof.ProjCTie

@[expose] public section

set_option maxRecDepth 16384

noncomputable section

open Idealize.ShloMosaic Idealize.ShloMosaic.TcCoe Idealize.SL.Sem
open Idealize.ShloMosaic.Pipeline (Dat)

namespace Cert.ProjCClaims

theorem frame_reference : Cert.quiescent_ProjCReferenceIdeal (hProjCReferenceIdeal := Cert.ProjCReferenceIdeal.Gen.facts) :=
  fun m g _ => (θ_run _ _ _).mono (fun r h => ⟨fun c => (h c).2.2.2.2.2.2, funext fun x => by nomatch x⟩) (Cert.ProjCReferenceIdeal.Value.run m g)

theorem value : Cert.algebraic_ProjCKernelIdeal_ProjCReferenceIdeal (hProjCKernelIdeal := Cert.ProjCKernelIdeal.Gen.facts)
    (hProjCReferenceIdeal := Cert.ProjCReferenceIdeal.Gen.facts) :=
  fun m g m' g' _ hag => ⟨fun c => Cert.ProjCKernelIdeal.Proj.result_q m c, fun c => Cert.ProjCKernelIdeal.Proj.result_k m c, fun c => Cert.ProjCKernelIdeal.Proj.result_v m c, fun c => Cert.ProjCKernelIdeal.Proj.result_o m c, fun c => Cert.ProjCKernelIdeal.Proj.result_g m c, fun c => Cert.ProjCKernelIdeal.Proj.result_h m c,
    (θ_run _ _ _).mono (fun _ h c => ⟨(h c).1.trans (Cert.ProjCKernelIdeal.Proj.final_q m c), (h c).2.1.trans (Cert.ProjCKernelIdeal.Proj.final_k m c),
        (h c).2.2.1.trans (Cert.ProjCKernelIdeal.Proj.final_v m c), (h c).2.2.2.1.trans (Cert.ProjCKernelIdeal.Proj.final_o m c),
        (h c).2.2.2.2.1.trans (Cert.ProjCKernelIdeal.Proj.final_g m c), (h c).2.2.2.2.2.1.trans (Cert.ProjCKernelIdeal.Proj.final_h m c), (h c).2.2.2.2.2.2⟩)
      (Cert.ProjCKernelIdeal.Value.run_blocks m g),
    (θ_run _ _ _).mono (fun _ h c => by
        obtain ⟨h0, h1, h2, h3, h4, h5⟩ := hag c
        refine ⟨((h c).1.trans (Cert.ProjCReferenceIdeal.Read.val_main_v44_eq _ _)).trans ?_,
          ((h c).2.1.trans (Cert.ProjCReferenceIdeal.Read.val_main_v47_eq _ _)).trans ?_,
          ((h c).2.2.1.trans (Cert.ProjCReferenceIdeal.Read.val_main_v48_eq _ _)).trans ?_,
          ((h c).2.2.2.1.trans (Cert.ProjCReferenceIdeal.Read.val_main_v55_eq _ _)).trans ?_,
          ((h c).2.2.2.2.1.trans (Cert.ProjCReferenceIdeal.Read.val_main_v43_eq _ _ _ _)).trans ?_,
          ((h c).2.2.2.2.2.1.trans (Cert.ProjCReferenceIdeal.Read.val_main_v56_eq _ _ _ _)).trans ?_, (h c).2.2.2.2.2.2⟩
        · rw [h0, h1, h2, h3]
        · rw [h0, h1, h2, h3]
        · rw [h0, h1]
        · rw [h0, h1]
        · rw [h0, h1, h4, h5]
        · rw [h0, h1, h4, h5])
      (Cert.ProjCReferenceIdeal.Value.run m' g')⟩

end Cert.ProjCClaims
-- ==== Proof.MlstmClaims.lean ====
/-
  The claims about the mixer-C recurrence call: its frames.
-/
module

public import proofs.«01_k».proof.Defs
public import proofs.«01_k».proof.Proof.Gen.MlstmKernel.Frame
public import proofs.«01_k».proof.Proof.Gen.MlstmKernelIdeal.Frame
public import proofs.«01_k».proof.Proof.Gen.MlstmReferenceIdeal.Run

@[expose] public section

set_option maxRecDepth 16384

noncomputable section

open Idealize.ShloMosaic Idealize.ShloMosaic.TcCoe Idealize.SL.Sem

namespace Cert.MlstmClaims

theorem frame_kernel : Cert.quiescent_MlstmKernel (hMlstmKernel := Cert.MlstmKernel.Gen.facts) :=
  fun m g _ => Cert.MlstmKernel.Gen.frame m g

theorem frame_ideal : Cert.quiescent_MlstmKernelIdeal (hMlstmKernelIdeal := Cert.MlstmKernelIdeal.Gen.facts) :=
  fun m g _ => Cert.MlstmKernelIdeal.Gen.frame m g

theorem frame_reference : Cert.quiescent_MlstmReferenceIdeal (hMlstmReferenceIdeal := Cert.MlstmReferenceIdeal.Gen.facts) :=
  fun m g _ => (θ_run _ _ _).mono (fun r h => ⟨fun c => (h c).2, funext fun x => by nomatch x⟩) (Cert.MlstmReferenceIdeal.Value.run m g)

end Cert.MlstmClaims

end
-- ==== Proof.lean ====
/-
  The proof of `Cert.Claim`: the claims of every call, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.SguKernel
public import proofs.«01_k».proof.Proof.Gen.SguKernelIdeal
public import proofs.«01_k».proof.Proof.Gen.SguReferenceIdeal
public import proofs.«01_k».proof.Proof.Gen.OutAbKernel
public import proofs.«01_k».proof.Proof.Gen.OutAbKernelIdeal
public import proofs.«01_k».proof.Proof.Gen.OutAbReferenceIdeal
public import proofs.«01_k».proof.Proof.Gen.OutCKernel
public import proofs.«01_k».proof.Proof.Gen.OutCKernelIdeal
public import proofs.«01_k».proof.Proof.Gen.OutCReferenceIdeal
public import proofs.«01_k».proof.Proof.Gen.ProjAbKernel
public import proofs.«01_k».proof.Proof.Gen.ProjAbKernelIdeal
public import proofs.«01_k».proof.Proof.Gen.ProjAbReferenceIdeal
public import proofs.«01_k».proof.Proof.Gen.ProjCKernel
public import proofs.«01_k».proof.Proof.Gen.ProjCKernelIdeal
public import proofs.«01_k».proof.Proof.Gen.ProjCReferenceIdeal
public import proofs.«01_k».proof.Proof.Gen.MlstmKernel
public import proofs.«01_k».proof.Proof.Gen.MlstmKernelIdeal
public import proofs.«01_k».proof.Proof.Gen.MlstmReferenceIdeal
public import proofs.«01_k».proof.Proof.Gen.Kernel.Frame
public import proofs.«01_k».proof.Proof.Gen.KernelIdeal.Frame
public import proofs.«01_k».proof.Proof.Gen.SguKernel.Frame
public import proofs.«01_k».proof.Proof.Gen.SguKernelIdeal.Frame
public import proofs.«01_k».proof.Proof.Gen.OutAbKernel.Frame
public import proofs.«01_k».proof.Proof.Gen.OutAbKernelIdeal.Frame
public import proofs.«01_k».proof.Proof.Gen.OutCKernel.Frame
public import proofs.«01_k».proof.Proof.Gen.OutCKernelIdeal.Frame
public import proofs.«01_k».proof.Proof.Gen.ProjAbKernel.Frame
public import proofs.«01_k».proof.Proof.Gen.ProjAbKernelIdeal.Frame
public import proofs.«01_k».proof.Proof.Gen.ProjCKernel.Frame
public import proofs.«01_k».proof.Proof.Gen.ProjCKernelIdeal.Frame
public import proofs.«01_k».proof.Proof.FfnClaims
public import proofs.«01_k».proof.Proof.SguClaims
public import proofs.«01_k».proof.Proof.OutAbClaims
public import proofs.«01_k».proof.Proof.OutCClaims
public import proofs.«01_k».proof.Proof.ProjAbClaims
public import proofs.«01_k».proof.Proof.ProjCClaims
public import proofs.«01_k».proof.Proof.MlstmClaims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.SguKernel.Gen.facts, Cert.SguKernelIdeal.Gen.facts, Cert.SguReferenceIdeal.Gen.facts,
    Cert.OutAbKernel.Gen.facts, Cert.OutAbKernelIdeal.Gen.facts, Cert.OutAbReferenceIdeal.Gen.facts,
    Cert.OutCKernel.Gen.facts, Cert.OutCKernelIdeal.Gen.facts, Cert.OutCReferenceIdeal.Gen.facts,
    Cert.ProjAbKernel.Gen.facts, Cert.ProjAbKernelIdeal.Gen.facts, Cert.ProjAbReferenceIdeal.Gen.facts,
    Cert.ProjCKernel.Gen.facts, Cert.ProjCKernelIdeal.Gen.facts, Cert.ProjCReferenceIdeal.Gen.facts,
    Cert.MlstmKernel.Gen.facts, Cert.MlstmKernelIdeal.Gen.facts, Cert.MlstmReferenceIdeal.Gen.facts,
    fun m g _ => Cert.Kernel.Gen.frame m g, fun m g _ => Cert.KernelIdeal.Gen.frame m g, Cert.FfnClaims.frame_reference,
    fun m g _ => Cert.SguKernel.Gen.frame m g, fun m g _ => Cert.SguKernelIdeal.Gen.frame m g, Cert.SguClaims.frame_reference,
    fun m g _ => Cert.OutAbKernel.Gen.frame m g, fun m g _ => Cert.OutAbKernelIdeal.Gen.frame m g, Cert.OutAbClaims.frame_reference,
    fun m g _ => Cert.OutCKernel.Gen.frame m g, fun m g _ => Cert.OutCKernelIdeal.Gen.frame m g, Cert.OutCClaims.frame_reference,
    fun m g _ => Cert.ProjAbKernel.Gen.frame m g, fun m g _ => Cert.ProjAbKernelIdeal.Gen.frame m g, Cert.ProjAbClaims.frame_reference,
    fun m g _ => Cert.ProjCKernel.Gen.frame m g, fun m g _ => Cert.ProjCKernelIdeal.Gen.frame m g, Cert.ProjCClaims.frame_reference,
    Cert.MlstmClaims.frame_kernel, Cert.MlstmClaims.frame_ideal, Cert.MlstmClaims.frame_reference,
    trivial, Cert.FfnClaims.value,
    trivial, Cert.SguClaims.value,
    trivial, Cert.OutAbClaims.value,
    trivial, Cert.OutCClaims.value,
    trivial, Cert.ProjAbClaims.value,
    trivial, Cert.ProjCClaims.value,
    trivial⟩

end Cert.Proof

end
